-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v2) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v2_0)) (v1 : (c : Dev Cert.Kernel3Ideal.nD) → Buf (Elt Ideal) ((c.tc : Thread Cert.Kernel3Ideal.nD Cert.Kernel3Ideal.τ).loc Cert.Kernel3Ideal.main_v2_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2_0) = v0 c
          ∧ r.2.mem ((c.tc : Thread Cert.Kernel3Ideal.nD Cert.Kernel3Ideal.τ).loc Cert.Kernel3Ideal.main_v2_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v13) = v0 c
          ∧ r.2.mem ((c.tc : Thread Cert.Reference3Ideal.nD Cert.Reference3Ideal.τ).loc Cert.Reference3Ideal.main_v14) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v13) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v3) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v14) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Pre_finite.lean ====
abbrev S32768x1024 : Shape := ⟨2, ![32768, 1024]⟩
abbrev S64 : Shape := ⟨1, ![64]⟩
abbrev S8x128 : Shape := ⟨2, ![8, 128]⟩
abbrev S_ : Shape := ⟨0, ![]⟩

class Facts : Prop where
  reducesTo_S64_S_d0 : S64.ReducesTo [0] S_
  h_S_ : 0 < S_.numel
  bitsLt_bf16_f32 : FTy.bits .bf16 < FTy.bits .f32
  bcast_S_S32768x1024 : S_.BroadcastsInDim S32768x1024 (![] : Fin 0 → Fin S32768x1024.rank)

variable [Facts]

def fn {F : FTy → Type} [FloatOps F] (main_arg0 : FVec F S32768x1024 .bf16) (main_arg1 : FVec F S32768x1024 .bf16) (main_arg2 : FVec F S32768x1024 .bf16) (main_arg3 : FVec F S64 .f32) (main_arg4 : FVec F S64 .f32) (main_arg5 : FVec F S64 .f32) (main_arg6 : FVec F S64 .f32) (main_arg7 : FVec F S8x128 .f32) : IVec S32768x1024 1 :=
  let main_v0 : FVec F S64 .f32 := mulf main_arg3 main_arg4
  let main_cst : FVec F S_ .f32 := constant S_ .f32 0x00000000#32
  let main_v1 : FVec F S_ .f32 := (fun x v => Host.reduceAdd x v reducesTo_S64_S_d0 h_S_) main_v0 main_cst
  let main_v2 : FVec F S_ .f32 := Host.exp main_v1
  let main_v3 : FVec F S64 .f32 := mulf main_arg5 main_arg6
  let main_cst_0 : FVec F S_ .f32 := constant S_ .f32 0x00000000#32
  let main_v4 : FVec F S_ .f32 := (fun x v => Host.reduceAdd x v reducesTo_S64_S_d0 h_S_) main_v3 main_cst_0
  let main_v5 : FVec F S_ .f32 := Host.exp main_v4
  let main_v6 : FVec F S_ .f32 := subf main_v2 main_v5
  let main_cst_1 : FVec F S_ .f32 := constant S_ .f32 0x3EB60549#32
  let main_v7 : FVec F S_ .f32 := addf main_v6 main_cst_1
  let main_v8 : FVec F S32768x1024 .f32 := (extf .f32 · bitsLt_bf16_f32) main_arg2
  let main_v9 : FVec F S32768x1024 .f32 := Host.absf main_v8
  let main_cst_2 : FVec F S_ .f32 := constant S_ .f32 0x7F800000#32
  let main_v10 : FVec F S32768x1024 .f32 := broadcastInDim S32768x1024 ![] bcast_S_S32768x1024 main_cst_2
  let main_v11 : IVec S32768x1024 1 := cmpf .olt main_v9 main_v10
  let main_v12 : FVec F S_ .f32 := Host.absf main_v7
  let main_cst_3 : FVec F S_ .f32 := constant S_ .f32 0x7F800000#32
  let main_v13 : IVec S_ 1 := cmpf .olt main_v12 main_cst_3
  let main_v14 : IVec S32768x1024 1 := broadcastInDim S32768x1024 ![] bcast_S_S32768x1024 main_v13
  let main_v15 : IVec S32768x1024 1 := andi main_v11 main_v14
  main_v15
-- ==== Kernel.lean ====
abbrev S32768x1024 : Shape := ⟨2, ![32768, 1024]⟩
abbrev S64 : Shape := ⟨1, ![64]⟩
abbrev S8x128 : Shape := ⟨2, ![8, 128]⟩
abbrev S528 : Shape := ⟨1, ![528]⟩
abbrev S1x64 : Shape := ⟨2, ![1, 64]⟩
abbrev S4x64 : Shape := ⟨2, ![4, 64]⟩
abbrev S_ : Shape := ⟨0, ![]⟩
abbrev S1 : Shape := ⟨1, ![1]⟩
abbrev S2 : Shape := ⟨1, ![2]⟩
abbrev S8x1x128 : Shape := ⟨3, ![8, 1, 128]⟩
abbrev S512x128 : Shape := ⟨2, ![512, 128]⟩
abbrev S1x1x128 : Shape := ⟨3, ![1, 1, 128]⟩
abbrev S2x512x1 : Shape := ⟨3, ![2, 512, 1]⟩
abbrev S2x512x128 : Shape := ⟨3, ![2, 512, 128]⟩
abbrev S512x512 : Shape := ⟨2, ![512, 512]⟩
abbrev S1x512x1 : Shape := ⟨3, ![1, 512, 1]⟩
abbrev S512x1 : Shape := ⟨2, ![512, 1]⟩
abbrev S512 : Shape := ⟨1, ![512]⟩
abbrev S1x512x128 : Shape := ⟨3, ![1, 512, 128]⟩
abbrev S1x128 : Shape := ⟨2, ![1, 128]⟩
abbrev S1x1 : Shape := ⟨2, ![1, 1]⟩

abbrev nBuf : Space → Nat
  | .hbm => 23
  | .vmem => 14
  | .smem => 2
  | _ => 0

abbrev bufTy : (tb : Table) → Fin (tcTables nBuf tb) → BufTy
  | .hbm, ⟨0, _⟩ => ⟨S32768x1024, .bf16⟩
  | .hbm, ⟨1, _⟩ => ⟨S32768x1024, .bf16⟩
  | .hbm, ⟨2, _⟩ => ⟨S32768x1024, .bf16⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S8x128, .f32⟩
  | .hbm, ⟨8, _⟩ => ⟨S1x64, .f32⟩
  | .hbm, ⟨9, _⟩ => ⟨S1x64, .f32⟩
  | .hbm, ⟨10, _⟩ => ⟨S1x64, .f32⟩
  | .hbm, ⟨11, _⟩ => ⟨S1x64, .f32⟩
  | .hbm, ⟨12, _⟩ => ⟨S4x64, .f32⟩
  | .hbm, ⟨13, _⟩ => ⟨S_, .f32⟩
  | .hbm, ⟨14, _⟩ => ⟨S8x128, .f32⟩
  | .hbm, ⟨15, _⟩ => ⟨S_, .i32⟩
  | .hbm, ⟨16, _⟩ => ⟨S1, .i32⟩
  | .hbm, ⟨17, _⟩ => ⟨S_, .i32⟩
  | .hbm, ⟨18, _⟩ => ⟨S1, .i32⟩
  | .hbm, ⟨19, _⟩ => ⟨S2, .i32⟩
  | .hbm, ⟨20, _⟩ => ⟨S8x128, .f32⟩
  | .hbm, ⟨21, _⟩ => ⟨S8x1x128, .f32⟩
  | .hbm, ⟨22, _⟩ => ⟨S32768x1024, .bf16⟩
  | .local _ .vmem, ⟨0, _⟩ => ⟨S8x128, .f32⟩
  | .local _ .vmem, ⟨1, _⟩ => ⟨S512x128, .bf16⟩
  | .local _ .vmem, ⟨2, _⟩ => ⟨S512x128, .bf16⟩
  | .local _ .vmem, ⟨3, _⟩ => ⟨S512x128, .bf16⟩
  | .local _ .vmem, ⟨4, _⟩ => ⟨S512x128, .bf16⟩
  | .local _ .vmem, ⟨5, _⟩ => ⟨S512x128, .bf16⟩
  | .local _ .vmem, ⟨6, _⟩ => ⟨S512x128, .bf16⟩
  | .local _ .vmem, ⟨7, _⟩ => ⟨S1x1x128, .f32⟩
  | .local _ .vmem, ⟨8, _⟩ => ⟨S1x1x128, .f32⟩
  | .local _ .vmem, ⟨9, _⟩ => ⟨S512x128, .bf16⟩
  | .local _ .vmem, ⟨10, _⟩ => ⟨S512x128, .bf16⟩
  | .local _ .vmem, ⟨11, _⟩ => ⟨S2x512x1, .f32⟩
  | .local _ .vmem, ⟨12, _⟩ => ⟨S2x512x1, .f32⟩
  | .local _ .vmem, ⟨13, _⟩ => ⟨S2x512x128, .f32⟩
  | .local _ .smem, ⟨0, _⟩ => ⟨S528, .i32⟩
  | .local _ .smem, ⟨1, _⟩ => ⟨S528, .i32⟩
  | _, _ => ⟨S32768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_c_1 : Ref sig .tc := ⟨.hbm, 15, rfl⟩
abbrev main_v6 : Ref sig .tc := ⟨.hbm, 16, rfl⟩
abbrev main_c_2 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c : Ref sig .tc := ⟨.smem, 0, rfl⟩
abbrev main_c_0 : Ref sig .tc := ⟨.smem, 1, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![2, 8, 528], ![false, false, false]⟩

abbrev pre0 : Pipeline.Prefetch sig := ⟨2, ![main_c.idx, main_c_0.idx], fun | 0 => main_c.names | 1 => main_c_0.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg2 : BitVec 32 := BitVec.ofNat 32 (i 2).val
  let v1 : Index := Scalar.indexCast arg2
  ![v1.toNat]
def k0_cond2 (v1 : BitVec 32) (v3 : BitVec 32) : BitVec 1 :=
  let v98 : BitVec 1 := Scalar.cmpi .eq v3 v1
  let v99 : BitVec 32 := Scalar.extui v98
  let c0_i32_54 : BitVec 32 := 0#32
  let v100 : BitVec 1 := Scalar.cmpi .ne v99 c0_i32_54
  v100

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (k0_off1_inb : ∀ i : grid0.Coords, ∀ a, (k0_off1 i) a + S1.size a ≤ S528.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : Index := Scalar.indexCast arg2
  let v2 : BitVec 32 := pf.at 0 (Rect.unit (s := S528) ![v1.toNat] S1.size (k0_off1_inb i)) numel1_S1
  let v3 : BitVec 32 := Scalar.addi v0 v2
  let c0_i32 : BitVec 32 := 0#32
  ![v3.toNat, arg1.toNat]

def cc0_transform_2 (k0_off1_inb : ∀ i : grid0.Coords, ∀ a, (k0_off1 i) a + S1.size a ≤ S528.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : Index := Scalar.indexCast arg2
  let v2 : BitVec 32 := pf.at 1 (Rect.unit (s := S528) ![v1.toNat] S1.size (k0_off1_inb i)) numel1_S1
  let v3 : BitVec 32 := Scalar.addi v0 v2
  let c0_i32 : BitVec 32 := 0#32
  ![v3.toNat, arg1.toNat]

def cc0_transform_3 (k0_off1_inb : ∀ i : grid0.Coords, ∀ a, (k0_off1 i) a + S1.size a ≤ S528.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : Index := Scalar.indexCast arg2
  let v2 : BitVec 32 := pf.at 1 (Rect.unit (s := S528) ![v1.toNat] S1.size (k0_off1_inb i)) numel1_S1
  let v3 : BitVec 32 := Scalar.addi v0 v2
  let c0_i32 : BitVec 32 := 0#32
  ![v3.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_5 (k0_off1_inb : ∀ i : grid0.Coords, ∀ a, (k0_off1 i) a + S1.size a ≤ S528.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : Index := Scalar.indexCast arg2
  let v2 : BitVec 32 := pf.at 0 (Rect.unit (s := S528) ![v1.toNat] S1.size (k0_off1_inb i)) numel1_S1
  let v3 : BitVec 32 := Scalar.addi v0 v2
  let c0_i32 : BitVec 32 := 0#32
  ![v3.toNat, arg1.toNat]

abbrev stage0_0 : Fin 1 → Memref sig .tc .vmem S8x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== ReferenceIdeal.lean ====
abbrev S32768x1024 : Shape := ⟨2, ![32768, 1024]⟩
abbrev S64 : Shape := ⟨1, ![64]⟩
abbrev S8x128 : Shape := ⟨2, ![8, 128]⟩
abbrev S2x16384x8x2x64 : Shape := ⟨5, ![2, 16384, 8, 2, 64]⟩
abbrev S2x16384x8x128 : Shape := ⟨4, ![2, 16384, 8, 128]⟩
abbrev S_ : Shape := ⟨0, ![]⟩
abbrev S2x8x2x16384x16384 : Shape := ⟨5, ![2, 8, 2, 16384, 16384]⟩
abbrev S16384 : Shape := ⟨1, ![16384]⟩
abbrev S1x16384 : Shape := ⟨2, ![1, 16384]⟩
abbrev S16384x1 : Shape := ⟨2, ![16384, 1]⟩
abbrev S16384x16384 : Shape := ⟨2, ![16384, 16384]⟩
abbrev S2x8x2x16384 : Shape := ⟨4, ![2, 8, 2, 16384]⟩
abbrev S2x8x2x16384x1 : Shape := ⟨5, ![2, 8, 2, 16384, 1]⟩
abbrev S2x8x1x16384x16384 : Shape := ⟨5, ![2, 8, 1, 16384, 16384]⟩
abbrev S2x8x16384x16384 : Shape := ⟨4, ![2, 8, 16384, 16384]⟩
abbrev S2x8x128x16384 : Shape := ⟨4, ![2, 8, 128, 16384]⟩
abbrev S2x16384x8 : Shape := ⟨3, ![2, 16384, 8]⟩
abbrev S2x16384x8x1 : Shape := ⟨4, ![2, 16384, 8, 1]⟩
abbrev S1x1x8x128 : Shape := ⟨4, ![1, 1, 8, 128]⟩

abbrev nBuf : Space → Nat
  | .hbm => 81
  | .vmem => 0
  | .smem => 0
  | _ => 0

abbrev bufTy : (tb : Table) → Fin (tcTables nBuf tb) → BufTy
  | .hbm, ⟨0, _⟩ => ⟨S32768x1024, .bf16⟩
  | .hbm, ⟨1, _⟩ => ⟨S32768x1024, .bf16⟩
  | .hbm, ⟨2, _⟩ => ⟨S32768x1024, .bf16⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S8x128, .f32⟩
  | .hbm, ⟨8, _⟩ => ⟨S32768x1024, .f32⟩
  | .hbm, ⟨9, _⟩ => ⟨S2x16384x8x2x64, .f32⟩
  | .hbm, ⟨10, _⟩ => ⟨S32768x1024, .f32⟩
  | .hbm, ⟨11, _⟩ => ⟨S2x16384x8x2x64, .f32⟩
  | .hbm, ⟨12, _⟩ => ⟨S32768x1024, .f32⟩
  | .hbm, ⟨13, _⟩ => ⟨S2x16384x8x128, .f32⟩
  | .hbm, ⟨14, _⟩ => ⟨S64, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S64, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S2x8x2x16384x16384, .f32⟩
  | .hbm, ⟨26, _⟩ => ⟨S16384, .i32⟩
  | .hbm, ⟨27, _⟩ => ⟨S1x16384, .i32⟩
  | .hbm, ⟨28, _⟩ => ⟨S16384x1, .i32⟩
  | .hbm, ⟨29, _⟩ => ⟨S16384x16384, .i32⟩
  | .hbm, ⟨30, _⟩ => ⟨S16384x16384, .i32⟩
  | .hbm, ⟨31, _⟩ => ⟨S16384x16384, .i1⟩
  | .hbm, ⟨32, _⟩ => ⟨S_, .f32⟩
  | .hbm, ⟨33, _⟩ => ⟨S_, .f32⟩
  | .hbm, ⟨34, _⟩ => ⟨S2x8x2x16384x16384, .i1⟩
  | .hbm, ⟨35, _⟩ => ⟨S2x8x2x16384x16384, .f32⟩
  | .hbm, ⟨36, _⟩ => ⟨S2x8x2x16384x16384, .f32⟩
  | .hbm, ⟨37, _⟩ => ⟨S_, .f32⟩
  | .hbm, ⟨38, _⟩ => ⟨S2x8x2x16384, .f32⟩
  | .hbm, ⟨39, _⟩ => ⟨S_, .f32⟩
  | .hbm, ⟨40, _⟩ => ⟨S2x8x2x16384, .f32⟩
  | .hbm, ⟨41, _⟩ => ⟨S2x8x2x16384, .f32⟩
  | .hbm, ⟨42, _⟩ => ⟨S2x8x2x16384x1, .f32⟩
  | .hbm, ⟨43, _⟩ => ⟨S2x8x2x16384x16384, .f32⟩
  | .hbm, ⟨44, _⟩ => ⟨S2x8x2x16384x16384, .f32⟩
  | .hbm, ⟨45, _⟩ => ⟨S2x8x2x16384x16384, .f32⟩
  | .hbm, ⟨46, _⟩ => ⟨S_, .f32⟩
  | .hbm, ⟨47, _⟩ => ⟨S2x8x2x16384, .f32⟩
  | .hbm, ⟨48, _⟩ => ⟨S2x8x2x16384x1, .f32⟩
  | .hbm, ⟨49, _⟩ => ⟨S2x8x2x16384x16384, .f32⟩
  | .hbm, ⟨50, _⟩ => ⟨S2x8x2x16384x16384, .f32⟩
  | .hbm, ⟨51, _⟩ => ⟨S2x8x1x16384x16384, .f32⟩
  | .hbm, ⟨52, _⟩ => ⟨S2x8x16384x16384, .f32⟩
  | .hbm, ⟨53, _⟩ => ⟨S2x8x1x16384x16384, .f32⟩
  | .hbm, ⟨54, _⟩ => ⟨S2x8x16384x16384, .f32⟩
  | .hbm, ⟨55, _⟩ => ⟨S2x8x16384x16384, .f32⟩
  | .hbm, ⟨56, _⟩ => ⟨S2x8x16384x16384, .f32⟩
  | .hbm, ⟨57, _⟩ => ⟨S2x8x16384x16384, .f32⟩
  | .hbm, ⟨58, _⟩ => ⟨S2x8x128x16384, .f32⟩
  | .hbm, ⟨59, _⟩ => ⟨S2x16384x8x128, .f32⟩
  | .hbm, ⟨60, _⟩ => ⟨S2x16384x8x128, .f32⟩
  | .hbm, ⟨61, _⟩ => ⟨S_, .f32⟩
  | .hbm, ⟨62, _⟩ => ⟨S2x16384x8, .f32⟩
  | .hbm, ⟨63, _⟩ => ⟨S2x16384x8x1, .f32⟩
  | .hbm, ⟨64, _⟩ => ⟨S_, .f32⟩
  | .hbm, ⟨65, _⟩ => ⟨S2x16384x8x1, .f32⟩
  | .hbm, ⟨66, _⟩ => ⟨S2x16384x8x1, .f32⟩
  | .hbm, ⟨67, _⟩ => ⟨S_, .f32⟩
  | .hbm, ⟨68, _⟩ => ⟨S2x16384x8x1, .f32⟩
  | .hbm, ⟨69, _⟩ => ⟨S2x16384x8x1, .f32⟩
  | .hbm, ⟨70, _⟩ => ⟨S2x16384x8x1, .f32⟩
  | .hbm, ⟨71, _⟩ => ⟨S2x16384x8x128, .f32⟩
  | .hbm, ⟨72, _⟩ => ⟨S2x16384x8x128, .f32⟩
  | .hbm, ⟨73, _⟩ => ⟨S1x1x8x128, .f32⟩
  | .hbm, ⟨74, _⟩ => ⟨S2x16384x8x128, .f32⟩
  | .hbm, ⟨75, _⟩ => ⟨S2x16384x8x128, .f32⟩
  | .hbm, ⟨76, _⟩ => ⟨S_, .f32⟩
  | .hbm, ⟨77, _⟩ => ⟨S2x16384x8x128, .f32⟩
  | .hbm, ⟨78, _⟩ => ⟨S2x16384x8x128, .f32⟩
  | .hbm, ⟨79, _⟩ => ⟨S32768x1024, .f32⟩
  | .hbm, ⟨80, _⟩ => ⟨S32768x1024, .bf16⟩
  | _, _ => ⟨S32768x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_2 : Ref sig .tc := ⟨.hbm, 32, rfl⟩
abbrev main_call0_v0 : Ref sig .tc := ⟨.hbm, 33, rfl⟩
abbrev main_call0_v1 : Ref sig .tc := ⟨.hbm, 34, rfl⟩
abbrev main_call0_v2 : Ref sig .tc := ⟨.hbm, 35, rfl⟩
abbrev main_v21 : Ref sig .tc := ⟨.hbm, 36, rfl⟩
abbrev main_cst_3 : Ref sig .tc := ⟨.hbm, 37, rfl⟩
abbrev main_v22 : Ref sig .tc := ⟨.hbm, 38, rfl⟩
abbrev main_cst_4 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_5 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_6 : Ref sig .tc := ⟨.hbm, 61, rfl⟩
abbrev main_v43 : Ref sig .tc := ⟨.hbm, 62, rfl⟩
abbrev main_v44 : Ref sig .tc := ⟨.hbm, 63, rfl⟩
abbrev main_cst_7 : Ref sig .tc := ⟨.hbm, 64, rfl⟩
abbrev main_v45 : Ref sig .tc := ⟨.hbm, 65, rfl⟩
abbrev main_v46 : Ref sig .tc := ⟨.hbm, 66, rfl⟩
abbrev main_cst_8 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_9 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩

abbrev nD : Nat := 1
abbrev τ : Topo := Topo.v7x

variable {F : FTy → Type} [FloatOps F]
-- ==== Kernel2.lean ====
abbrev S32768x1024 : Shape := ⟨2, ![32768, 1024]⟩
abbrev S1024x1024 : Shape := ⟨2, ![1024, 1024]⟩
abbrev S512x1024 : Shape := ⟨2, ![512, 1024]⟩

abbrev nBuf : Space → Nat
  | .hbm => 5
  | .vmem => 7
  | .smem => 0
  | _ => 0

abbrev bufTy : (tb : Table) → Fin (tcTables nBuf tb) → BufTy
  | .hbm, ⟨0, _⟩ => ⟨S32768x1024, .bf16⟩
  | .hbm, ⟨1, _⟩ => ⟨S1024x1024, .f32⟩
  | .hbm, ⟨2, _⟩ => ⟨S32768x1024, .f32⟩
  | .hbm, ⟨3, _⟩ => ⟨S1024x1024, .bf16⟩
  | .hbm, ⟨4, _⟩ => ⟨S32768x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S32768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![64, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference2Ideal.lean ====
abbrev S32768x1024 : Shape := ⟨2, ![32768, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S32768x1024, .bf16⟩
  | .hbm, ⟨1, _⟩ => ⟨S1024x1024, .f32⟩
  | .hbm, ⟨2, _⟩ => ⟨S32768x1024, .f32⟩
  | .hbm, ⟨3, _⟩ => ⟨S32768x1024, .f32⟩
  | .hbm, ⟨4, _⟩ => ⟨S32768x1024, .f32⟩
  | .hbm, ⟨5, _⟩ => ⟨S32768x1024, .f32⟩
  | _, _ => ⟨S32768x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel3.lean ====
abbrev S32768x1024 : Shape := ⟨2, ![32768, 1024]⟩
abbrev S1024 : Shape := ⟨1, ![1024]⟩
abbrev S1024x2048 : Shape := ⟨2, ![1024, 2048]⟩
abbrev S1x1024 : Shape := ⟨2, ![1, 1024]⟩
abbrev S32768x2048 : Shape := ⟨2, ![32768, 2048]⟩
abbrev S512x1024 : Shape := ⟨2, ![512, 1024]⟩
abbrev S1024x1024 : Shape := ⟨2, ![1024, 1024]⟩
abbrev S512 : Shape := ⟨1, ![512]⟩
abbrev S512x1 : Shape := ⟨2, ![512, 1]⟩

abbrev nBuf : Space → Nat
  | .hbm => 7
  | .vmem => 10
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x2048, .f32⟩
  | .hbm, ⟨3, _⟩ => ⟨S1024x2048, .bf16⟩
  | .hbm, ⟨4, _⟩ => ⟨S1x1024, .f32⟩
  | .hbm, ⟨5, _⟩ => ⟨S32768x2048, .f32⟩
  | .hbm, ⟨6, _⟩ => ⟨S32768x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S512x1024, .f32⟩
  | .local _ .vmem, ⟨6, _⟩ => ⟨S512x1024, .f32⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![64, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference3Ideal.lean ====
abbrev S32768x1024 : Shape := ⟨2, ![32768, 1024]⟩
abbrev S1024 : Shape := ⟨1, ![1024]⟩
abbrev S1024x2048 : Shape := ⟨2, ![1024, 2048]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x2048 : Shape := ⟨2, ![32768, 2048]⟩

abbrev nBuf : Space → Nat
  | .hbm => 21
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x2048, .f32⟩
  | .hbm, ⟨3, _⟩ => ⟨S32768x1024, .f32⟩
  | .hbm, ⟨4, _⟩ => ⟨S_, .f32⟩
  | .hbm, ⟨5, _⟩ => ⟨S32768, .f32⟩
  | .hbm, ⟨6, _⟩ => ⟨S32768x1, .f32⟩
  | .hbm, ⟨7, _⟩ => ⟨S_, .f32⟩
  | .hbm, ⟨8, _⟩ => ⟨S32768x1, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S32768x1, .f32⟩
  | .hbm, ⟨14, _⟩ => ⟨S32768x1024, .f32⟩
  | .hbm, ⟨15, _⟩ => ⟨S32768x1024, .f32⟩
  | .hbm, ⟨16, _⟩ => ⟨S1x1024, .f32⟩
  | .hbm, ⟨17, _⟩ => ⟨S32768x1024, .f32⟩
  | .hbm, ⟨18, _⟩ => ⟨S32768x1024, .f32⟩
  | .hbm, ⟨19, _⟩ => ⟨S32768x2048, .f32⟩
  | .hbm, ⟨20, _⟩ => ⟨S32768x1024, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Kernel4.lean ====
abbrev S32768x1024 : Shape := ⟨2, ![32768, 1024]⟩
abbrev S1024 : Shape := ⟨1, ![1024]⟩
abbrev S1024x3072 : Shape := ⟨2, ![1024, 3072]⟩
abbrev S1x1024 : Shape := ⟨2, ![1, 1024]⟩
abbrev S32768x3072 : Shape := ⟨2, ![32768, 3072]⟩
abbrev S512x1024 : Shape := ⟨2, ![512, 1024]⟩
abbrev S1024x1024 : Shape := ⟨2, ![1024, 1024]⟩
abbrev S512 : Shape := ⟨1, ![512]⟩
abbrev S512x1 : Shape := ⟨2, ![512, 1]⟩

abbrev nBuf : Space → Nat
  | .hbm => 6
  | .vmem => 8
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x3072, .f32⟩
  | .hbm, ⟨3, _⟩ => ⟨S1024x3072, .bf16⟩
  | .hbm, ⟨4, _⟩ => ⟨S1x1024, .f32⟩
  | .hbm, ⟨5, _⟩ => ⟨S32768x3072, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S512x1024, .f32⟩
  | .local _ .vmem, ⟨6, _⟩ => ⟨S512x1024, .f32⟩
  | .local _ .vmem, ⟨7, _⟩ => ⟨S512x1024, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![64, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference4Ideal.lean ====
abbrev S32768x1024 : Shape := ⟨2, ![32768, 1024]⟩
abbrev S1024 : Shape := ⟨1, ![1024]⟩
abbrev S1024x3072 : Shape := ⟨2, ![1024, 3072]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x3072 : Shape := ⟨2, ![32768, 3072]⟩

abbrev nBuf : Space → Nat
  | .hbm => 20
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x3072, .f32⟩
  | .hbm, ⟨3, _⟩ => ⟨S32768x1024, .f32⟩
  | .hbm, ⟨4, _⟩ => ⟨S_, .f32⟩
  | .hbm, ⟨5, _⟩ => ⟨S32768, .f32⟩
  | .hbm, ⟨6, _⟩ => ⟨S32768x1, .f32⟩
  | .hbm, ⟨7, _⟩ => ⟨S_, .f32⟩
  | .hbm, ⟨8, _⟩ => ⟨S32768x1, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S32768x1, .f32⟩
  | .hbm, ⟨14, _⟩ => ⟨S32768x1024, .f32⟩
  | .hbm, ⟨15, _⟩ => ⟨S32768x1024, .f32⟩
  | .hbm, ⟨16, _⟩ => ⟨S1x1024, .f32⟩
  | .hbm, ⟨17, _⟩ => ⟨S32768x1024, .f32⟩
  | .hbm, ⟨18, _⟩ => ⟨S32768x1024, .f32⟩
  | .hbm, ⟨19, _⟩ => ⟨S32768x3072, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Kernel5.lean ====
abbrev S32768x1024 : Shape := ⟨2, ![32768, 1024]⟩
abbrev S1024 : Shape := ⟨1, ![1024]⟩
abbrev S1024x3088 : Shape := ⟨2, ![1024, 3088]⟩
abbrev S_ : Shape := ⟨0, ![]⟩
abbrev S1024x3200 : Shape := ⟨2, ![1024, 3200]⟩
abbrev S1x1024 : Shape := ⟨2, ![1, 1024]⟩
abbrev S32768x3200 : Shape := ⟨2, ![32768, 3200]⟩
abbrev S512x1024 : Shape := ⟨2, ![512, 1024]⟩
abbrev S1024x640 : Shape := ⟨2, ![1024, 640]⟩
abbrev S512x640 : Shape := ⟨2, ![512, 640]⟩
abbrev S512 : Shape := ⟨1, ![512]⟩
abbrev S512x1 : Shape := ⟨2, ![512, 1]⟩

abbrev nBuf : Space → Nat
  | .hbm => 9
  | .vmem => 8
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x3088, .f32⟩
  | .hbm, ⟨3, _⟩ => ⟨S_, .i32⟩
  | .hbm, ⟨4, _⟩ => ⟨S_, .f32⟩
  | .hbm, ⟨5, _⟩ => ⟨S1024x3200, .f32⟩
  | .hbm, ⟨6, _⟩ => ⟨S1024x3200, .bf16⟩
  | .hbm, ⟨7, _⟩ => ⟨S1x1024, .f32⟩
  | .hbm, ⟨8, _⟩ => ⟨S32768x3200, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x640, .bf16⟩
  | .local _ .vmem, ⟨4, _⟩ => ⟨S1024x640, .bf16⟩
  | .local _ .vmem, ⟨5, _⟩ => ⟨S512x640, .f32⟩
  | .local _ .vmem, ⟨6, _⟩ => ⟨S512x640, .f32⟩
  | .local _ .vmem, ⟨7, _⟩ => ⟨S512x1024, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![64, 5], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x640 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x640 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference5Ideal.lean ====
abbrev S32768x1024 : Shape := ⟨2, ![32768, 1024]⟩
abbrev S1024 : Shape := ⟨1, ![1024]⟩
abbrev S1024x3088 : Shape := ⟨2, ![1024, 3088]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x3088 : Shape := ⟨2, ![32768, 3088]⟩
abbrev S32768x3200 : Shape := ⟨2, ![32768, 3200]⟩

abbrev nBuf : Space → Nat
  | .hbm => 23
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x3088, .f32⟩
  | .hbm, ⟨3, _⟩ => ⟨S32768x1024, .f32⟩
  | .hbm, ⟨4, _⟩ => ⟨S_, .f32⟩
  | .hbm, ⟨5, _⟩ => ⟨S32768, .f32⟩
  | .hbm, ⟨6, _⟩ => ⟨S32768x1, .f32⟩
  | .hbm, ⟨7, _⟩ => ⟨S_, .f32⟩
  | .hbm, ⟨8, _⟩ => ⟨S32768x1, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S32768x1, .f32⟩
  | .hbm, ⟨14, _⟩ => ⟨S32768x1024, .f32⟩
  | .hbm, ⟨15, _⟩ => ⟨S32768x1024, .f32⟩
  | .hbm, ⟨16, _⟩ => ⟨S1x1024, .f32⟩
  | .hbm, ⟨17, _⟩ => ⟨S32768x1024, .f32⟩
  | .hbm, ⟨18, _⟩ => ⟨S32768x1024, .f32⟩
  | .hbm, ⟨19, _⟩ => ⟨S32768x3088, .f32⟩
  | .hbm, ⟨20, _⟩ => ⟨S_, .i32⟩
  | .hbm, ⟨21, _⟩ => ⟨S_, .f32⟩
  | .hbm, ⟨22, _⟩ => ⟨S32768x3200, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_c : Ref sig .tc := ⟨.hbm, 20, rfl⟩
abbrev main_call0_v0 : Ref sig .tc := ⟨.hbm, 21, rfl⟩
abbrev main_v14 : Ref sig .tc := ⟨.hbm, 22, rfl⟩

abbrev nD : Nat := 1
abbrev τ : Topo := Topo.v7x

variable {F : FTy → Type} [FloatOps F]
-- ==== Proof.TablesI.lean ====
/- The prefetched tables of the attention kernel (KernelIdeal): their words, the side condition they meet, and what the index
   maps make of them. -/
module

public import proofs.«01_k».proof.Proof.Gen.KernelIdeal.Launch
public import proofs.«01_k».proof.Proof.Gen.KernelIdeal.Skeleton
public import Idealize.ShloMosaic.Lib.Pipeline.Frame
public import Idealize.ShloMosaic.Lib.Pipeline.FrameBody
public import Idealize.ShloMosaic.Lib.Pipeline.TableIdle
public import Idealize.ShloMosaic.Lib.Tactic
public import Idealize.ShloMosaic.Lib.Claim

@[expose] public section

set_option maxRecDepth 16384

noncomputable section

namespace Cert.KernelIdeal.Att

open Idealize.ShloMosaic Idealize.ShloMosaic.TcCoe
open Idealize.SL Idealize.SL.RA Idealize.SL.BI
open scoped Idealize.SL.BI
open Idealize.SL.BI.BIBase Idealize.SL.BI.Laws Idealize.SL.Sem Idealize.SL.ProofMode
open Cert.KernelIdeal Cert.KernelIdeal.Gen

variable {F : FTy → Type} [FloatOps F]

/-- Step `s` of the triangle sits at block row `q`, block column `k`, with `s = q (q + 1) / 2 + k` and `k ≤ q < 32`. -/
theorem word_pos : ∀ s : Fin 528, s.val = (lit0 s).toNat * ((lit0 s).toNat + 1) / 2 + (lit1 s).toNat
    ∧ (lit1 s).toNat ≤ (lit0 s).toNat ∧ (lit0 s).toNat < 32 := by decide +kernel

/-- Where the column is not the row, the next step stays in the row. -/
theorem word_next : ∀ s : Fin 528, lit1 s ≠ lit0 s → ∃ h : s.val + 1 < 528, lit0 ⟨s.val + 1, h⟩ = lit0 s := by decide +kernel

/-- The two tables' contents, as the host program's constants give them. -/
def tabs : pre0.Contents (Elt F) := fun
  | 0 => fun i => lit0 (S528.rowMajor i)
  | 1 => fun i => lit1 (S528.rowMajor i)
  | ⟨_ + 2, h⟩ => absurd h (Nat.not_lt.2 (Nat.le_add_left _ _))

/-- The step coordinate of a grid point. -/
abbrev stp (i : grid0.Coords) : Fin 528 := i 2

/-- A point's place in the tables. -/
theorem word_idx (i : grid0.Coords) (x : S528.Idx) (hx : (x 0).val = (BitVec.ofNat 32 (i 2).val).toNat) :
    S528.rowMajor x = stp i := by
  apply Fin.ext
  rw [Shape.rowMajor_val_one]
  have h : (i 2).val < 528 := (i 2).isLt
  rw [hx, BitVec.toNat_ofNat, Nat.mod_eq_of_lt (by omega)]

/-- The first table's word an index map reads at a point. -/
theorem tabs_at0 (i : grid0.Coords) : (tabs (F := F)).at 0 (Rect.unit (s := S528) (k0_off1 i) S1.size (k0_off1_inb i)) numel1_S1 = lit0 (stp i) := by
  exact congrArg lit0 (word_idx i _ rfl)

/-- The second table's. -/
theorem tabs_at1 (i : grid0.Coords) : (tabs (F := F)).at 1 (Rect.unit (s := S528) (k0_off1 i) S1.size (k0_off1_inb i)) numel1_S1 = lit1 (stp i) := by
  exact congrArg lit1 (word_idx i _ rfl)

/-- A point's place is inside the tables. -/
theorem off_lt (i : grid0.Coords) : ∀ a, k0_off1 i a + 1 ≤ S528.size a := fun a => by
  have h := k0_off1_inb i a
  have e : S1.size a = 1 := by match a with | ⟨0, _⟩ => rfl
  rwa [e] at h

/-- A point's block row, read from the first table. -/
theorem tabs_atD0 (i : grid0.Coords) : (tabs (F := F)).atD 0 (k0_off1 i) = lit0 (stp i) := by
  refine (dif_pos (off_lt i)).trans ?_
  exact congrArg lit0 (word_idx i _ rfl)

/-- A point's block column, read from the second table. -/
theorem tabs_atD1 (i : grid0.Coords) : (tabs (F := F)).atD 1 (k0_off1 i) = lit1 (stp i) := by
  refine (dif_pos (off_lt i)).trans ?_
  exact congrArg lit1 (word_idx i _ rfl)

/-- The block row of a batch and a table word: `32 b + w`. -/
theorem row_word (b : Nat) (hb : b < 2) (w : BitVec 32) (hw : w.toNat < 32) :
    (Scalar.addi (Scalar.muli (BitVec.ofNat 32 b) 32#32) w).toNat = b * 32 + w.toNat := by
  show (BitVec.ofNat 32 b * 32#32 + w).toNat = _
  rw [BitVec.toNat_add, BitVec.toNat_mul, BitVec.toNat_ofNat, BitVec.toNat_ofNat]
  rw [Nat.mod_eq_of_lt (show b < 2 ^ 32 by omega), Nat.mod_eq_of_lt (show 32 < 2 ^ 32 by omega)]
  omega

/-- A head number is its word. -/
theorem head_word (i : grid0.Coords) : (BitVec.ofNat 32 (i 1).val).toNat = (i 1).val := by
  have h : (i 1).val < 8 := (i 1).isLt
  rw [BitVec.toNat_ofNat, Nat.mod_eq_of_lt (by omega)]

/-- Where the query block sits: block row `32 b + q`, block column the head. -/
theorem map1 (i : grid0.Coords) : cc0_transform_1 k0_off1_inb numel1_S1 (tabs (F := F)) i = ![(i 0).val * 32 + (lit0 (stp i)).toNat, (i 1).val] := by
  have h := tabs_at0 (F := F) i
  unfold cc0_transform_1
  dsimp only
  rw [show (tabs (F := F)).at 0 (Rect.unit (s := S528) ![(Scalar.indexCast (BitVec.ofNat 32 (i 2).val)).toNat] S1.size (k0_off1_inb i)) numel1_S1 = lit0 (stp i) from h,
    row_word _ (i 0).isLt _ (word_pos (stp i)).2.2, head_word]

/-- Where the key block sits: block row `32 b + k`. -/
theorem map2 (i : grid0.Coords) : cc0_transform_2 k0_off1_inb numel1_S1 (tabs (F := F)) i = ![(i 0).val * 32 + (lit1 (stp i)).toNat, (i 1).val] := by
  have h := tabs_at1 (F := F) i
  unfold cc0_transform_2
  dsimp only
  rw [show (tabs (F := F)).at 1 (Rect.unit (s := S528) ![(Scalar.indexCast (BitVec.ofNat 32 (i 2).val)).toNat] S1.size (k0_off1_inb i)) numel1_S1 = lit1 (stp i) from h,
    row_word _ (i 0).isLt _ ((word_pos (stp i)).2.1.trans_lt (word_pos (stp i)).2.2), head_word]

/-- The value block sits where the key block does. -/
theorem map3 (i : grid0.Coords) : cc0_transform_3 k0_off1_inb numel1_S1 (tabs (F := F)) i = ![(i 0).val * 32 + (lit1 (stp i)).toNat, (i 1).val] :=
  map2 (F := F) i

/-- The result block sits where the query block does. -/
theorem map5 (i : grid0.Coords) : cc0_transform_5 k0_off1_inb numel1_S1 (tabs (F := F)) i = ![(i 0).val * 32 + (lit0 (stp i)).toNat, (i 1).val] :=
  map1 (F := F) i

/-- A block at a block row below 64 and a block column below 8 lies in the (32768, 1024) array, on whole words. -/
theorem block_in (r h : Nat) (hr : r < 64) (hh : h < 8) (f : Fin 2 → Nat) (hf : f = ![r, h]) :
    ∃ h : (∀ a, (f a + 1) * S512x128.size a ≤ S32768x1024.size a), EltTy.bits .bf16 = 32 ∨ (Rect.block (s := S32768x1024) S512x128.size f h).WholeWords (EltTy.packing .bf16) := by
  subst hf
  refine ⟨fun a => ?_, .inr ?_⟩
  · match a with
    | ⟨0, _⟩ => show (r + 1) * 512 ≤ 32768; omega
    | ⟨1, _⟩ => show (h + 1) * 128 ≤ 1024; omega
  · have h2 : 2 ≤ S32768x1024.rank := by decide
    have e1 : (2 : Nat) ∣ r * 512 := ⟨r * 256, by omega⟩
    have e2 : (2 : Nat) ∣ 512 := ⟨256, rfl⟩
    exact .inl (.inr ⟨h2, rfl, .inl ⟨e1, e2⟩⟩)

/-- The tables meet the pipeline's side condition. -/
theorem tabs_ok : ok0 (F := F) tabs := by
  refine ⟨fun i => ?_, fun i => ?_, fun i => ?_, fun i => ?_⟩
  all_goals have hb : (i 0).val < 2 := (i 0).isLt
  all_goals have hh : (i 1).val < 8 := (i 1).isLt
  all_goals have hw := word_pos (stp i)
  · exact block_in _ _ (by omega) hh _ (map1 i)
  · exact block_in _ _ (by omega) hh _ (map2 i)
  · exact block_in _ _ (by omega) hh _ (map3 i)
  · exact block_in _ _ (by omega) hh _ (map5 i)

end Cert.KernelIdeal.Att

end
-- ==== Proof.KernI.lean ====
/- One grid point of the attention kernel (KernelIdeal): what the body leaves in its three scratches and in the result's
   staging buffer, as closed forms over what it finds. -/
module

public import proofs.«01_k».proof.Proof.TablesI
public import Idealize.ShloMosaic.Lib.VecWindow
public import Idealize.ShloMosaic.Lib.WritesUnit
public import Idealize.ShloMosaic.Lib.Pipeline.Frame
public import Idealize.ShloMosaic.Lib.Pipeline.FrameBody
public import Idealize.ShloMosaic.Lib.Pipeline.TableIdle
public import Idealize.ShloMosaic.Lib.Tactic
public import Idealize.ShloMosaic.Lib.Claim

@[expose] public section

set_option maxRecDepth 16384

noncomputable section

namespace Cert.KernelIdeal.Att

open Idealize.ShloMosaic Idealize.ShloMosaic.TcCoe
open Idealize.SL Idealize.SL.RA Idealize.SL.BI
open scoped Idealize.SL.BI
open Idealize.SL.BI.BIBase Idealize.SL.BI.Laws Idealize.SL.Sem Idealize.SL.ProofMode
open Cert.KernelIdeal Cert.KernelIdeal.Gen

variable {F : FTy → Type} [FloatOps F]

/-- An entry of two slots of one lane, as an entry of one slot. -/
def low1 (i : S2x512x1.Idx) : S1x512x1.Idx := fun | ⟨0, _⟩ => (0 : Fin 1) | ⟨1, _⟩ => i 1 | ⟨2, _⟩ => i 2
/-- The same with 128 lanes. -/
def low128 (i : S2x512x128.Idx) : S1x512x128.Idx := fun | ⟨0, _⟩ => (0 : Fin 1) | ⟨1, _⟩ => i 1 | ⟨2, _⟩ => i 2
/-- Two slots of one lane, stacked. -/
def two1 (x y : FVec F S1x512x1 .f32) : FVec F S2x512x1 .f32 := fun i => if (i 0).val = 0 then x (low1 i) else y (low1 i)
/-- Two slots of 128 lanes, stacked. -/
def two128 (x y : FVec F S1x512x128 .f32) : FVec F S2x512x128 .f32 := fun i => if (i 0).val = 0 then x (low128 i) else y (low128 i)

/-- The first slot of one lane. -/
abbrev r1a : Rect S2x512x1 := Rect.unit (s := S2x512x1) ![0, 0, 0] S1x512x1.size inb_S2x512x1_S1x512x1_0_0_0
/-- The second slot of one lane. -/
abbrev r1b : Rect S2x512x1 := Rect.unit (s := S2x512x1) ![1, 0, 0] S1x512x1.size inb_S2x512x1_S1x512x1_1_0_0
/-- The first slot of 128 lanes. -/
abbrev r128a : Rect S2x512x128 := Rect.unit (s := S2x512x128) ![0, 0, 0] S1x512x128.size inb_S2x512x128_S1x512x128_0_0_0
/-- The second slot of 128 lanes. -/
abbrev r128b : Rect S2x512x128 := Rect.unit (s := S2x512x128) ![1, 0, 0] S1x512x128.size inb_S2x512x128_S1x512x128_1_0_0

/-- The scratches: running maximum, running denominator, running sum. -/
structure St (F : FTy → Type) [FloatOps F] where
  m : FVec F S2x512x1 .f32
  l : FVec F S2x512x1 .f32
  a : FVec F S2x512x128 .f32

/-- The three scratches as a grid point starts on them: reset in a row's first column. -/
def St.enter (v3 : BitVec 32) (s : St F) : St F :=
  ⟨if _h : Scalar.cmpi .ne (Scalar.extui (Scalar.cmpi .eq v3 0#32)) 0#32 = 1#1 then k0_pay10 else s.m,
   if _h : Scalar.cmpi .ne (Scalar.extui (Scalar.cmpi .eq v3 0#32)) 0#32 = 1#1 then k0_pay11 else s.l,
   if _h : Scalar.cmpi .ne (Scalar.extui (Scalar.cmpi .eq v3 0#32)) 0#32 = 1#1 then k0_pay12 else s.a⟩

/-- The lane numbers. -/
abbrev lane : IVec S512x128 32 := iota .tc S512x128 32 [1] iota_S512x128_d1_w32

/-- The first map's new maximum, probabilities and rescaling; then the two slots of each scratch. -/
def n31 (v1 v3 : BitVec 32) (q k : Vec F S512x128 .bf16) (s : St F) : FVec F S512x1 .f32 := k0_pay16 v1 v3 q k (fun y => s.m (r1a.idx y))
/-- The first map's new sum. -/
def nl0 (v1 v3 : BitVec 32) (q k : Vec F S512x128 .bf16) (s : St F) : FVec F S1x512x1 .f32 :=
  k0_pay19 (k0_pay17 v1 v3 q k (fun y => s.m (r1a.idx y))) (k0_pay18 v1 v3 q k (fun y => s.m (r1a.idx y))) (fun y => s.l (r1a.idx y))
/-- The first map's new accumulator. -/
def na0 (v1 v3 : BitVec 32) (q k v : Vec F S512x128 .bf16) (s : St F) : FVec F S1x512x128 .f32 :=
  k0_pay20 v (k0_pay17 v1 v3 q k (fun y => s.m (r1a.idx y))) (k0_pay18 v1 v3 q k (fun y => s.m (r1a.idx y))) (fun y => s.a (r128a.idx y))
/-- The second map's new maximum. -/
def nm1 (v1 v3 : BitVec 32) (q k : Vec F S512x128 .bf16) (s : St F) : FVec F S1x512x1 .f32 :=
  k0_pay6 (k0_pay23 (fun y => s.m (r1b.idx y))) (k0_pay24 q k lane (k0_pay13 (F := F) v1 v3))
/-- The second map's new sum. -/
def nl1 (v1 v3 : BitVec 32) (q k : Vec F S512x128 .bf16) (s : St F) : FVec F S1x512x1 .f32 :=
  k0_pay4 (k0_pay22 q k lane (k0_pay13 (F := F) v1 v3)) (k0_pay23 (fun y => s.m (r1b.idx y))) (k0_pay24 q k lane (k0_pay13 (F := F) v1 v3)) (fun y => s.l (r1b.idx y))
/-- The second map's new accumulator. -/
def na1 (v1 v3 : BitVec 32) (q k v : Vec F S512x128 .bf16) (s : St F) : FVec F S1x512x128 .f32 :=
  k0_pay5 v (k0_pay22 q k lane (k0_pay13 (F := F) v1 v3)) (k0_pay23 (fun y => s.m (r1b.idx y))) (k0_pay24 q k lane (k0_pay13 (F := F) v1 v3)) (fun y => s.a (r128b.idx y))

/-- What a grid point makes of the scratches it starts on, at its query, key and value blocks. -/
def St.step (v1 v3 : BitVec 32) (q k v : Vec F S512x128 .bf16) (s : St F) : St F :=
  ⟨two1 (k0_pay21 (n31 v1 v3 q k s)) (nm1 v1 v3 q k s), two1 (nl0 v1 v3 q k s) (nl1 v1 v3 q k s), two128 (na0 v1 v3 q k v s) (na1 v1 v3 q k v s)⟩

/-- The block written at a row's last column, from the scratches after it, the mixing table and the gain. -/
def St.out (tb : Vec F S8x128 .f32) (gn : Vec F S1x1x128 .f32) (s : St F) : FVec F S512x128 .bf16 :=
  k0_pay7 (k0_pay8 tb (fun y => s.a (r128a.idx y)) (fun y => s.l (r1a.idx y)) (fun y => s.a (r128b.idx y)) (fun y => s.l (r1b.idx y)))
    (k0_pay9 tb (fun y => s.a (r128a.idx y)) (fun y => s.l (r1a.idx y)) (fun y => s.a (r128b.idx y)) (fun y => s.l (r1b.idx y))) gn

/-- A whole grid point: enter, then step at the point's table words. -/
def St.next (s : St F) (v1 v3 : BitVec 32) (q k v : Vec F S512x128 .bf16) : St F :=
  (s.enter v3).step v1 v3 q k v

/-- The table of block rows. -/
abbrev tb0 : Memref sig .tc .smem S528 .i32 := Memref.whole main_c
/-- The table of block columns. -/
abbrev tb1 : Memref sig .tc .smem S528 .i32 := Memref.whole main_c_0
/-- The scratch of the maxima. -/
abbrev sc0 : Memref sig .tc .vmem S2x512x1 .f32 := Memref.whole cc0_scratch0
/-- The scratch of the sums. -/
abbrev sc1 : Memref sig .tc .vmem S2x512x1 .f32 := Memref.whole cc0_scratch1
/-- The scratch of the accumulators. -/
abbrev sc2 : Memref sig .tc .vmem S2x512x128 .f32 := Memref.whole cc0_scratch2

local notation "𝕄" => MT nD τ sig Unit (Elt F) ℕ (UR sig nD τ) ℕ

section views
variable {sp : Space}

/-- Two row stores leave the two rows stacked, whatever was there before. -/
theorem read_two1 (v : View sig .tc sp S2x512x1 .f32) (f : v.ty.Contents (Elt F)) (x y : FVec F S1x512x1 .f32) (L : List (View.Piece (Elt F) S2x512x1 .f32)) :
    v.read (Elt F) (v.writes (Elt F) f (⟨r1b, x⟩ :: ⟨r1a, y⟩ :: L)) = two1 y x := by
  funext i
  unfold two1
  split
  · rename_i h
    refine (View.read_writes_cons_unit_of_not_mem v f _ x _ i rfl 0 (.inl (by rw [h]; decide))).trans ?_
    refine View.read_writes_cons_unit_of_mem v f _ y L i (low1 i) rfl fun a => ?_
    match a with
    | ⟨0, _⟩ => exact h
    | ⟨1, _⟩ => exact (Nat.zero_add _).symm
    | ⟨2, _⟩ => exact (Nat.zero_add _).symm
  · rename_i h
    refine View.read_writes_cons_unit_of_mem v f _ x _ i (low1 i) rfl fun a => ?_
    match a with
    | ⟨0, _⟩ => have := (i 0).isLt; show (i 0).val = 1 + 0; have : (i 0).val < 2 := (i 0).isLt; omega
    | ⟨1, _⟩ => exact (Nat.zero_add _).symm
    | ⟨2, _⟩ => exact (Nat.zero_add _).symm

/-- Reading the two slots of 128 lanes after both are written. -/
theorem read_two128 (v : View sig .tc sp S2x512x128 .f32) (f : v.ty.Contents (Elt F)) (x y : FVec F S1x512x128 .f32) (L : List (View.Piece (Elt F) S2x512x128 .f32)) :
    v.read (Elt F) (v.writes (Elt F) f (⟨r128b, x⟩ :: ⟨r128a, y⟩ :: L)) = two128 y x := by
  funext i
  unfold two128
  split
  · rename_i h
    refine (View.read_writes_cons_unit_of_not_mem v f _ x _ i rfl 0 (.inl (by rw [h]; decide))).trans ?_
    refine View.read_writes_cons_unit_of_mem v f _ y L i (low128 i) rfl fun a => ?_
    match a with
    | ⟨0, _⟩ => exact h
    | ⟨1, _⟩ => exact (Nat.zero_add _).symm
    | ⟨2, _⟩ => exact (Nat.zero_add _).symm
  · rename_i h
    refine View.read_writes_cons_unit_of_mem v f _ x _ i (low128 i) rfl fun a => ?_
    match a with
    | ⟨0, _⟩ => show (i 0).val = 1 + 0; have : (i 0).val < 2 := (i 0).isLt; omega
    | ⟨1, _⟩ => exact (Nat.zero_add _).symm
    | ⟨2, _⟩ => exact (Nat.zero_add _).symm

end views

/-! What the scratches' views read. -/

theorem f1 {sp : Space} (v : View sig .tc sp S2x512x1 .f32) (f : v.ty.Contents (Elt F)) (w : FVec F S2x512x1 .f32) :
    v.read (Elt F) (v.writes (Elt F) f [(⟨Rect.unit (s := S2x512x1) ![0, 0, 0] S2x512x1.size inb_S2x512x1_S2x512x1_0_0_0, w⟩ : View.Piece (Elt F) S2x512x1 .f32)]) = w :=
  View.read_writes_full v f _ w []

/-- Reading the maxima whole. -/
theorem g0 (X : FVec F S2x512x1 .f32) : sc0.view.read (Elt F) X = X := rfl
/-- Reading the first map's maxima. -/
theorem ga0 (X : FVec F S2x512x1 .f32) : sc0.view.readAt (Elt F) r1a.toLoadRect X = fun y => X (r1a.idx y) := rfl
/-- Reading the second map's maxima. -/
theorem gb0 (X : FVec F S2x512x1 .f32) : sc0.view.readAt (Elt F) r1b.toLoadRect X = fun y => X (r1b.idx y) := rfl
/-- Writing the maxima whole. -/
theorem e0 (f w : FVec F S2x512x1 .f32) :
    sc0.view.writes (Elt F) f [(⟨Rect.unit (s := S2x512x1) ![0, 0, 0] S2x512x1.size inb_S2x512x1_S2x512x1_0_0_0, w⟩ : View.Piece (Elt F) S2x512x1 .f32)] = (w : FVec F S2x512x1 .f32) := by
  have h := f1 sc0.view f w
  rw [g0] at h
  exact h
/-- Writing both maps' maxima. -/
theorem t0 (f : FVec F S2x512x1 .f32) (x y : FVec F S1x512x1 .f32) (L : List (View.Piece (Elt F) S2x512x1 .f32)) :
    sc0.view.writes (Elt F) f (⟨r1b, x⟩ :: ⟨r1a, y⟩ :: L) = (two1 y x : FVec F S2x512x1 .f32) := by
  have h := read_two1 sc0.view f x y L
  rw [g0] at h
  exact h

/-- Reading the sums whole. -/
theorem g1 (X : FVec F S2x512x1 .f32) : sc1.view.read (Elt F) X = X := rfl
/-- Reading the first map's sums. -/
theorem ga1 (X : FVec F S2x512x1 .f32) : sc1.view.readAt (Elt F) r1a.toLoadRect X = fun y => X (r1a.idx y) := rfl
/-- Reading the second map's sums. -/
theorem gb1 (X : FVec F S2x512x1 .f32) : sc1.view.readAt (Elt F) r1b.toLoadRect X = fun y => X (r1b.idx y) := rfl
/-- Writing the sums whole. -/
theorem e1 (f w : FVec F S2x512x1 .f32) :
    sc1.view.writes (Elt F) f [(⟨Rect.unit (s := S2x512x1) ![0, 0, 0] S2x512x1.size inb_S2x512x1_S2x512x1_0_0_0, w⟩ : View.Piece (Elt F) S2x512x1 .f32)] = (w : FVec F S2x512x1 .f32) := by
  have h := f1 sc1.view f w
  rw [g1] at h
  exact h
/-- Writing both maps' sums. -/
theorem t1 (f : FVec F S2x512x1 .f32) (x y : FVec F S1x512x1 .f32) (L : List (View.Piece (Elt F) S2x512x1 .f32)) :
    sc1.view.writes (Elt F) f (⟨r1b, x⟩ :: ⟨r1a, y⟩ :: L) = (two1 y x : FVec F S2x512x1 .f32) := by
  have h := read_two1 sc1.view f x y L
  rw [g1] at h
  exact h

/-- A piece of the whole shape is what is read after it is written. -/
theorem f128 {sp : Space} (v : View sig .tc sp S2x512x128 .f32) (f : v.ty.Contents (Elt F)) (w : FVec F S2x512x128 .f32) :
    v.read (Elt F) (v.writes (Elt F) f [(⟨Rect.unit (s := S2x512x128) ![0, 0, 0] S2x512x128.size inb_S2x512x128_S2x512x128_0_0_0, w⟩ : View.Piece (Elt F) S2x512x128 .f32)]) = w :=
  View.read_writes_full v f _ w []

/-- Reading the accumulators whole. -/
theorem g2 (X : FVec F S2x512x128 .f32) : sc2.view.read (Elt F) X = X := rfl
/-- Reading the first map's accumulator. -/
theorem ga2 (X : FVec F S2x512x128 .f32) : sc2.view.readAt (Elt F) r128a.toLoadRect X = fun y => X (r128a.idx y) := rfl
/-- Reading the second map's accumulator. -/
theorem gb2 (X : FVec F S2x512x128 .f32) : sc2.view.readAt (Elt F) r128b.toLoadRect X = fun y => X (r128b.idx y) := rfl
/-- Writing the accumulators whole. -/
theorem e2 (f w : FVec F S2x512x128 .f32) :
    sc2.view.writes (Elt F) f [(⟨Rect.unit (s := S2x512x128) ![0, 0, 0] S2x512x128.size inb_S2x512x128_S2x512x128_0_0_0, w⟩ : View.Piece (Elt F) S2x512x128 .f32)] = (w : FVec F S2x512x128 .f32) := by
  have h := f128 sc2.view f w
  rw [g2] at h
  exact h
/-- Writing both maps' accumulators. -/
theorem t2 (f : FVec F S2x512x128 .f32) (x y : FVec F S1x512x128 .f32) (L : List (View.Piece (Elt F) S2x512x128 .f32)) :
    sc2.view.writes (Elt F) f (⟨r128b, x⟩ :: ⟨r128a, y⟩ :: L) = (two128 y x : FVec F S2x512x128 .f32) := by
  have h := read_two128 sc2.view f x y L
  rw [g2] at h
  exact h

end Cert.KernelIdeal.Att

end
-- ==== Proof.RunI.lean ====
/- The body of the attention kernel (KernelIdeal) run at one grid point: it leaves the closed forms of the module before. -/
module

public import proofs.«01_k».proof.Proof.KernI
public import Idealize.ShloMosaic.Lib.VecWindow
public import Idealize.ShloMosaic.Lib.WritesUnit
public import Idealize.ShloMosaic.Lib.Pipeline.Frame
public import Idealize.ShloMosaic.Lib.Pipeline.FrameBody
public import Idealize.ShloMosaic.Lib.Pipeline.TableIdle
public import Idealize.ShloMosaic.Lib.Tactic
public import Idealize.ShloMosaic.Lib.Claim

@[expose] public section

set_option maxRecDepth 16384

noncomputable section

namespace Cert.KernelIdeal.Att

open Idealize.ShloMosaic Idealize.ShloMosaic.TcCoe
open Idealize.SL Idealize.SL.RA Idealize.SL.BI
open scoped Idealize.SL.BI
open Idealize.SL.BI.BIBase Idealize.SL.BI.Laws Idealize.SL.Sem Idealize.SL.ProofMode
open Cert.KernelIdeal Cert.KernelIdeal.Gen

variable {F : FTy → Type} [FloatOps F]

local notation "𝕄" => MT nD τ sig Unit (Elt F) ℕ (UR sig nD τ) ℕ

set_option maxHeartbeats 8000000 in
theorem kern (c : Dev nD) (i : grid0.Coords)
    (arg5 : Memref sig .tc .vmem S8x128 .f32) (harg5 : arg5.IsWhole) (arg6 : Memref sig .tc .vmem S512x128 .bf16) (harg6 : arg6.IsWhole)
    (arg7 : Memref sig .tc .vmem S512x128 .bf16) (harg7 : arg7.IsWhole) (arg8 : Memref sig .tc .vmem S512x128 .bf16) (harg8 : arg8.IsWhole)
    (arg9 : Memref sig .tc .vmem S1x1x128 .f32) (harg9 : arg9.IsWhole) (arg10 : Memref sig .tc .vmem S512x128 .bf16) (harg10 : arg10.IsWhole)
    (x0 : Vec F S8x128 .f32) (x1 x2 x3 : Vec F S512x128 .bf16) (x4 : Vec F S1x1x128 .f32) (d : Vec F S512x128 .bf16)
    (s : St F) (T0 T1 : Vec F S528 .i32) (w0 w1 : BitVec 32)
    (hw0 : T0 ((Rect.unit (s := S528) (k0_off1 i) S1.size (k0_off1_inb i)).idx (Shape.Idx.first (numel1_S1.symm ▸ Nat.one_pos))) = w0)
    (hw1 : T1 ((Rect.unit (s := S528) (k0_off1 i) S1.size (k0_off1_inb i)).idx (Shape.Idx.first (numel1_S1.symm ▸ Nat.one_pos))) = w1) (K : PUnit → sProp 𝕄) :
    iprop((arg5.view.loc (c : Thread nD τ) ↦[arg5.view.set]{fullShare} arg5.view.rep x0)
      ∗ (arg6.view.loc (c : Thread nD τ) ↦[arg6.view.set]{fullShare} arg6.view.rep x1)
      ∗ (arg7.view.loc (c : Thread nD τ) ↦[arg7.view.set]{fullShare} arg7.view.rep x2)
      ∗ (arg8.view.loc (c : Thread nD τ) ↦[arg8.view.set]{fullShare} arg8.view.rep x3)
      ∗ (arg9.view.loc (c : Thread nD τ) ↦[arg9.view.set]{fullShare} arg9.view.rep x4)
      ∗ (arg10.view.loc (c : Thread nD τ) ↦[arg10.view.set]{fullShare} arg10.view.rep d)
      ∗ (tb0.view.loc (c : Thread nD τ) ↦{fullShare.right} T0)
      ∗ (tb1.view.loc (c : Thread nD τ) ↦{fullShare.right} T1)
      ∗ (sc0.view.loc (c : Thread nD τ) ↦{fullShare} s.m)
      ∗ (sc1.view.loc (c : Thread nD τ) ↦{fullShare} s.l)
      ∗ (sc2.view.loc (c : Thread nD τ) ↦{fullShare} s.a)
      ∗ (iprop((arg5.view.loc (c : Thread nD τ) ↦[arg5.view.set]{fullShare} arg5.view.rep x0)
      ∗ (arg6.view.loc (c : Thread nD τ) ↦[arg6.view.set]{fullShare} arg6.view.rep x1)
      ∗ (arg7.view.loc (c : Thread nD τ) ↦[arg7.view.set]{fullShare} arg7.view.rep x2)
      ∗ (arg8.view.loc (c : Thread nD τ) ↦[arg8.view.set]{fullShare} arg8.view.rep x3)
      ∗ (arg9.view.loc (c : Thread nD τ) ↦[arg9.view.set]{fullShare} arg9.view.rep x4)
      ∗ owns (c : Thread nD τ) arg10 fullShare (if k0_cond2 w0 w1 = 1#1 then St.out x0 x4 (s.next w0 w1 x1 x2 x3) else d)
      ∗ (tb0.view.loc (c : Thread nD τ) ↦{fullShare.right} T0)
      ∗ (tb1.view.loc (c : Thread nD τ) ↦{fullShare.right} T1)
      ∗ (sc0.view.loc (c : Thread nD τ) ↦{fullShare} (s.next w0 w1 x1 x2 x3).m)
      ∗ (sc1.view.loc (c : Thread nD τ) ↦{fullShare} (s.next w0 w1 x1 x2 x3).l)
      ∗ (sc2.view.loc (c : Thread nD τ) ↦{fullShare} (s.next w0 w1 x1 x2 x3).a)) -∗ K ⟨⟩))
    ⊢ wp frame (wpE (defs₀ (F := F)) Variants.none c none) Set.univ
        (cc0_diff_flash (F := F) i (Memref.whole main_c) (Memref.isWhole_whole _) (Memref.whole main_c_0) (Memref.isWhole_whole _)
          arg5 harg5 arg6 harg6 arg7 harg7 arg8 harg8 arg9 harg9 arg10 harg10
          (Memref.whole cc0_scratch0) (Memref.isWhole_whole _) (Memref.whole cc0_scratch1) (Memref.isWhole_whole _) (Memref.whole cc0_scratch2) (Memref.isWhole_whole _)) K := by
  rw [cc0_diff_flash_eq_skeleton]; unfold cc0_diff_flash_skel
  sl_open_parts
  have hT0 : tb0.IsWhole := Memref.isWhole_whole _
  have hT1 : tb1.IsWhole := Memref.isWhole_whole _
  have hS0 : sc0.IsWhole := Memref.isWhole_whole _
  have hS1 : sc1.IsWhole := Memref.isWhole_whole _
  have hS2 : sc2.IsWhole := Memref.isWhole_whole _
  iintro ⟨H0, H1, H2, H3, H4, HO, HT0, HT1, HS0, HS1, HS2, Hk⟩
  sl_exec!
  have g0 : ∀ X : FVec F S2x512x1 .f32, sc0.view.read (Elt F) X = X := fun X => rfl
  have ga0 : ∀ X : FVec F S2x512x1 .f32, sc0.view.readAt (Elt F) r1a.toLoadRect X = fun y => X (r1a.idx y) := fun X => rfl
  have gb0 : ∀ X : FVec F S2x512x1 .f32, sc0.view.readAt (Elt F) r1b.toLoadRect X = fun y => X (r1b.idx y) := fun X => rfl
  have g1 : ∀ X : FVec F S2x512x1 .f32, sc1.view.read (Elt F) X = X := fun X => rfl
  have ga1 : ∀ X : FVec F S2x512x1 .f32, sc1.view.readAt (Elt F) r1a.toLoadRect X = fun y => X (r1a.idx y) := fun X => rfl
  have gb1 : ∀ X : FVec F S2x512x1 .f32, sc1.view.readAt (Elt F) r1b.toLoadRect X = fun y => X (r1b.idx y) := fun X => rfl
  have q0 : kern.sl.r (F := F) i T0 = w0 := hw0
  have q1 : kern.sl.r_1 (F := F) i T1 = w1 := hw1
  have q2 : kern.sl.r_2 (F := F) arg6 x1 = x1 := View.readAt_rep_full _ _ _
  have q3 : kern.sl.r_3 (F := F) arg7 x2 = x2 := View.readAt_rep_full _ _ _
  have q4 : kern.sl.r_4 (F := F) arg8 x3 = x3 := View.readAt_rep_full _ _ _
  have q5 : kern.sl.r_5 = lane := rfl
  have q6 : kern.sl.r_6 (F := F) i T0 T1 = k0_pay13 (F := F) w0 w1 := by unfold kern.sl.r_6; rw [q0, q1]
  have v27 : kern.sl.v27 (F := F) i s T1 = fun y => (s.enter w1).m (r1a.idx y) := by unfold kern.sl.v27; rw [q1, e0, ga0]; rfl
  have v66 : kern.sl.v66 (F := F) i s T1 = fun y => (s.enter w1).m (r1b.idx y) := by unfold kern.sl.v66; rw [q1, e0, gb0]; rfl
  have v37 : kern.sl.v37 (F := F) i s T1 = fun y => (s.enter w1).l (r1a.idx y) := by unfold kern.sl.v37; rw [q1, e1, ga1]; rfl
  have v76 : kern.sl.v76 (F := F) i s T1 = fun y => (s.enter w1).l (r1b.idx y) := by unfold kern.sl.v76; rw [q1, e1, gb1]; rfl
  have v46 : kern.sl.v46 (F := F) i s T1 = fun y => (s.enter w1).a (r128a.idx y) := by unfold kern.sl.v46; rw [q1, e2, ga2]; rfl
  have v85 : kern.sl.v85 (F := F) i s T1 = fun y => (s.enter w1).a (r128b.idx y) := by unfold kern.sl.v85; rw [q1, e2, gb2]; rfl
  have q7 : kern.sl.r_7 (F := F) i arg6 arg7 x1 x2 s T0 T1 = n31 w0 w1 x1 x2 (s.enter w1) := by
    unfold kern.sl.r_7 n31; rw [q0, q1, View.readAt_rep_full, View.readAt_rep_full, v27]
    all_goals rfl
  have q8 : kern.sl.r_8 (F := F) i arg6 arg7 x1 x2 s T0 T1 = k0_pay17 w0 w1 x1 x2 (fun y => (s.enter w1).m (r1a.idx y)) := by
    unfold kern.sl.r_8; rw [q0, q1, View.readAt_rep_full, View.readAt_rep_full, v27]
    all_goals rfl
  have q9 : kern.sl.r_9 (F := F) i arg6 arg7 x1 x2 s T0 T1 = k0_pay18 w0 w1 x1 x2 (fun y => (s.enter w1).m (r1a.idx y)) := by
    unfold kern.sl.r_9; rw [q0, q1, View.readAt_rep_full, View.readAt_rep_full, v27]
    all_goals rfl
  have u0 : ∀ f, sc0.view.writes (Elt F) f (kern.sl.HS0_2 i arg6 arg7 x1 x2 s T0 T1) = (s.next w0 w1 x1 x2 x3).m := fun f => by
    unfold kern.sl.HS0_2
    rw [t0, q2, q3, q5, q6, q7, v66]; rfl
  have u1 : ∀ f, sc1.view.writes (Elt F) f (kern.sl.HS1_2 i arg6 arg7 x1 x2 s T0 T1) = (s.next w0 w1 x1 x2 x3).l := fun f => by
    unfold kern.sl.HS1_2
    rw [t1, q2, q3, q5, q6, q8, q9, v37, v66, v76]; rfl
  have u2 : ∀ f, sc2.view.writes (Elt F) f (kern.sl.HS2_2 i arg6 arg7 arg8 x1 x2 x3 s T0 T1) = (s.next w0 w1 x1 x2 x3).a := fun f => by
    unfold kern.sl.HS2_2
    rw [t2, q2, q3, q4, q5, q6, q8, q9, v46, v66, v85]; rfl
  have v118 : kern.sl.v118 (F := F) i arg6 arg7 arg8 x1 x2 x3 s T0 T1 = fun y => (s.next w0 w1 x1 x2 x3).a (r128a.idx y) := by
    unfold kern.sl.v118 View.readCov; rw [u2, ga2]
  have v124 : kern.sl.v124 (F := F) i arg6 arg7 arg8 x1 x2 x3 s T0 T1 = fun y => (s.next w0 w1 x1 x2 x3).a (r128b.idx y) := by
    unfold kern.sl.v124 View.readCov; rw [u2, gb2]
  have v120 : kern.sl.v120 (F := F) i arg6 arg7 x1 x2 s T0 T1 = fun y => (s.next w0 w1 x1 x2 x3).l (r1a.idx y) := by
    unfold kern.sl.v120 View.readCov; rw [u1, ga1]
  have v126 : kern.sl.v126 (F := F) i arg6 arg7 x1 x2 s T0 T1 = fun y => (s.next w0 w1 x1 x2 x3).l (r1b.idx y) := by
    unfold kern.sl.v126 View.readCov; rw [u1, gb1]
  rw [u0, u1, u2, q0, q1, v118, v120, v124, v126]
  sl_step
  iapply Hk
  isplitl [H0]; · iexact H0
  isplitl [H1]; · iexact H1
  isplitl [H2]; · iexact H2
  isplitl [H3]; · iexact H3
  isplitl [H4]; · iexact H4
  isplitl [HO]
  · unfold owns
    iexists _; isplitr; swap; · iexact HO
    ipureintro
    split
    · refine (View.read_writes_full _ _ _ _ _).trans ?_
      rw [View.readAt_rep_full, View.readAt_rep_full]; rfl
    · exact View.read_rep _ _
  isplitl [HT0]; · iexact HT0
  isplitl [HT1]; · iexact HT1
  isplitl [HS0]; · iexact HS0
  isplitl [HS1]; · iexact HS1
  iexact HS2

end Cert.KernelIdeal.Att

end
-- ==== Proof.FrameI.lean ====
/- The attention kernel (KernelIdeal) over its whole grid: what the scratch buffers hold at every point, the body obligation, the run. -/
module

public import proofs.«01_k».proof.Proof.RunI
public import Idealize.ShloMosaic.Lib.Pipeline.Frame
public import Idealize.ShloMosaic.Lib.Pipeline.FrameBody
public import Idealize.ShloMosaic.Lib.Pipeline.TableIdle
public import Idealize.ShloMosaic.Lib.Pipeline.Kit
public import Idealize.ShloMosaic.Lib.Tactic
public import Idealize.ShloMosaic.Lib.Claim

@[expose] public section

set_option maxRecDepth 16384

noncomputable section

namespace Cert.KernelIdeal.Att

open Idealize.ShloMosaic Idealize.ShloMosaic.TcCoe Idealize.ShloMosaic.Pipeline
open Idealize.SL Idealize.SL.RA Idealize.SL.BI
open scoped Idealize.SL.BI
open Idealize.SL.BI.BIBase Idealize.SL.BI.Laws Idealize.SL.Sem Idealize.SL.ProofMode
open Cert.KernelIdeal Cert.KernelIdeal.Gen

variable {F : FTy → Type} [FloatOps F]

local notation "𝕄" => MT nD τ sig Unit (Elt F) ℕ (UR sig nD τ) ℕ

/-- The tables the region finds, admissible. -/
abbrev adm : (p : Fin 1) → (pcfgs (F := F) p).Adm := fun _ => ⟨tabs, tabs_ok⟩

/-- The pipeline at those tables. -/
abbrev cfgA : Cfg sig Λ₀ := pin (pcfgs (F := F)) adm 0

/-- The number of grid points, kept folded. -/
abbrev NN : Nat := grid0.N

variable (m : (ℓ : Loc nD τ sig) → Buf (Elt F) ℓ)

/-- A buffer's contents when the region is entered. -/
def V (c : Dev nD) (b : Ref sig .tc) : Buf (Elt F) ((c : Thread nD τ).loc b) :=
  StableHlo.after hostOps0 (fun b => m (c, b)) b

/-- The host operations before the call make nothing fresh. -/
theorem hostOps0_fresh : (hostOps0 : List (HloOp τ sig (Elt F))).Forall fun op => op.fresh = ∅ := by
  simp only [List.Forall]; repeat' constructor

/-- What the host operations write. -/
abbrev hostOps0_W : List (Ref sig .tc) :=
  [main_c, main_c_0, main_v0, main_v1, main_v2, main_v3, main_v4, main_cst, main_v5, main_c_1, main_v6, main_c_2, main_v7, main_v8, main_v9, main_v10]

/-- The block of input window `w` at point `t`. -/
def iblk (c : Dev nD) (w : Fin 6) (t : Fin (cfgA (F := F)).N) : (((cfgA (F := F)).win w).xblock ((cfgA (F := F)).grid.coords t)).Idx → Elt F ((cfgA (F := F)).win w).elt :=
  (((cfgA (F := F)).win w).blk t).view.read (Elt F) (V m c (arrRef (cfgA (F := F)).spec w))

/-- The first window's block at a point. -/
abbrev x0 (c : Dev nD) (t : Fin (cfgA (F := F)).N) : Vec F S8x128 .f32 := iblk m c 0 t
/-- The query block at a point. -/
abbrev x1 (c : Dev nD) (t : Fin (cfgA (F := F)).N) : Vec F S512x128 .bf16 := iblk m c 1 t
/-- The key block at a point. -/
abbrev x2 (c : Dev nD) (t : Fin (cfgA (F := F)).N) : Vec F S512x128 .bf16 := iblk m c 2 t
/-- The value block at a point. -/
abbrev x3 (c : Dev nD) (t : Fin (cfgA (F := F)).N) : Vec F S512x128 .bf16 := iblk m c 3 t
/-- The gain block at a point. -/
abbrev x4 (c : Dev nD) (t : Fin (cfgA (F := F)).N) : Vec F S1x1x128 .f32 := iblk m c 4 t

/-- The step of the triangle at a point. -/
abbrev stpt (t : Fin (cfgA (F := F)).N) : Fin 528 := stp (grid0.coords t)

/-- What the scratch buffers hold after the first `n` points. -/
def st (c : Dev nD) : ℕ → St F
  | 0 => ⟨k0_pay10, k0_pay11, k0_pay12⟩
  | n + 1 => if h : n < (cfgA (F := F)).N then
      (st c n).next (lit0 (stpt (F := F) ⟨n, h⟩)) (lit1 (stpt (F := F) ⟨n, h⟩)) (x1 m c ⟨n, h⟩) (x2 m c ⟨n, h⟩) (x3 m c ⟨n, h⟩)
    else st c n

/-- The scratches after a point are the point's step of those before it. -/
theorem st_succ (c : Dev nD) (t : Fin (cfgA (F := F)).N) :
    st m c (t.val + 1) = (st m c t.val).next (lit0 (stpt (F := F) t)) (lit1 (stpt (F := F) t)) (x1 m c t) (x2 m c t) (x3 m c t) := by
  rw [st, dif_pos t.isLt]

/-- At the first column of a row what the buffers held is forgotten. -/
theorem next_zero (s s' : St F) (w : BitVec 32) (q k v : Vec F S512x128 .bf16) : s.next w 0#32 q k v = s'.next w 0#32 q k v := by
  unfold St.next St.enter
  rw [dif_pos (by decide), dif_pos (by decide), dif_pos (by decide), dif_pos (by decide), dif_pos (by decide), dif_pos (by decide)]

/-- The body's invariant at a point: the scratch buffers at what the points before left, the tables, the generator. -/
def Phi (c : Dev nD) (n : ℕ) : sProp 𝕄 :=
  iprop((∃ s : St F, ⌜n ≠ 0 → s = st m c n⌝ ∗ (sc0.view.loc (c : Thread nD τ) ↦{fullShare} s.m)
      ∗ (sc1.view.loc (c : Thread nD τ) ↦{fullShare} s.l) ∗ (sc2.view.loc (c : Thread nD τ) ↦{fullShare} s.a))
    ∗ ((tb0.view.loc (c : Thread nD τ) ↦{fullShare.right} tabs (F := F) 0) ∗ (tb1.view.loc (c : Thread nD τ) ↦{fullShare.right} tabs (F := F) 1))
    ∗ ∃ r, prngReg c r)

/-- The pipeline's proof data: inputs keep their blocks, the result window holds the row's outcome. -/
def dats (_ : Fin 1) (c : Dev nD) : Dat τ (Elt F) Unit ℕ (UR sig nD τ) ℕ (cfgA (F := F)) c where
  A w := V m c (arrRef (cfgA (F := F)).spec w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => St.out (x0 m c t) (x4 m c t) (st m c (t.val + 1))
    | ⟨_ + 6, h⟩ => absurd h (Nat.not_lt.2 (Nat.le_add_left _ _))
  Φ t := Phi m c t.val
  q _ := fullShare
  owed _ := 0

/-- Window 0 after a point. -/
theorem after0 (c : Dev nD) (t : Fin (cfgA (F := F)).N) : (dats m 0 c).after (0 : Fin 6) t = x0 m c t := by exact rfl
/-- Window 1 after a point. -/
theorem after1 (c : Dev nD) (t : Fin (cfgA (F := F)).N) : (dats m 0 c).after (1 : Fin 6) t = x1 m c t := by exact rfl
/-- Window 2 after a point. -/
theorem after2 (c : Dev nD) (t : Fin (cfgA (F := F)).N) : (dats m 0 c).after (2 : Fin 6) t = x2 m c t := by exact rfl
/-- Window 3 after a point. -/
theorem after3 (c : Dev nD) (t : Fin (cfgA (F := F)).N) : (dats m 0 c).after (3 : Fin 6) t = x3 m c t := by exact rfl
/-- Window 4 after a point. -/
theorem after4 (c : Dev nD) (t : Fin (cfgA (F := F)).N) : (dats m 0 c).after (4 : Fin 6) t = x4 m c t := by exact rfl
/-- Window 5 after a point. -/
theorem after5 (c : Dev nD) (t : Fin (cfgA (F := F)).N) : (dats m 0 c).after (5 : Fin 6) t = St.out (x0 m c t) (x4 m c t) (st m c (t.val + 1)) := by exact rfl

/-- A fetch of the first window fills its whole buffer. -/
theorem fill0 (t : Fin (cfgA (F := F)).N) (d X : Vec F S8x128 .f32) : ((cfgA (F := F)).win (0 : Fin 6)).fill ((cfgA (F := F)).grid.coords t) d X = X := by exact rfl
/-- Window 0 before a point. -/
theorem before0 (c : Dev nD) (t : Fin (cfgA (F := F)).N) d : (dats m 0 c).before (0 : Fin 6) t d = x0 m c t :=
  ((dats m 0 c).before_in_eq_fetched (0 : Fin 6) rfl (fun _ => rfl) (fun _ _ _ => rfl) (fun t => by rw [after0]; unfold Dat.blockOf x0 iblk; rfl) t d).trans (fill0 t d _)
/-- Window 1 before a point. -/
theorem before1 (c : Dev nD) (t : Fin (cfgA (F := F)).N) d : (dats m 0 c).before (1 : Fin 6) t d = x1 m c t :=
  ((dats m 0 c).before_in_eq_fetched (1 : Fin 6) rfl (fun _ => rfl) (fun _ _ _ => rfl) (fun t => by rw [after1]; unfold Dat.blockOf x1 iblk; rfl) t d).trans (by unfold Dat.fetched Dat.blockOf x1 iblk; rfl)
/-- Window 2 before a point. -/
theorem before2 (c : Dev nD) (t : Fin (cfgA (F := F)).N) d : (dats m 0 c).before (2 : Fin 6) t d = x2 m c t :=
  ((dats m 0 c).before_in_eq_fetched (2 : Fin 6) rfl (fun _ => rfl) (fun _ _ _ => rfl) (fun t => by rw [after2]; unfold Dat.blockOf x2 iblk; rfl) t d).trans (by unfold Dat.fetched Dat.blockOf x2 iblk; rfl)
/-- Window 3 before a point. -/
theorem before3 (c : Dev nD) (t : Fin (cfgA (F := F)).N) d : (dats m 0 c).before (3 : Fin 6) t d = x3 m c t :=
  ((dats m 0 c).before_in_eq_fetched (3 : Fin 6) rfl (fun _ => rfl) (fun _ _ _ => rfl) (fun t => by rw [after3]; unfold Dat.blockOf x3 iblk; rfl) t d).trans (by unfold Dat.fetched Dat.blockOf x3 iblk; rfl)
/-- Window 4 before a point. -/
theorem before4 (c : Dev nD) (t : Fin (cfgA (F := F)).N) d : (dats m 0 c).before (4 : Fin 6) t d = x4 m c t :=
  ((dats m 0 c).before_in_eq_fetched (4 : Fin 6) rfl (fun _ => rfl) (fun _ _ _ => rfl) (fun t => by rw [after4]; unfold Dat.blockOf x4 iblk; rfl) t d).trans (by unfold Dat.fetched Dat.blockOf x4 iblk; rfl)

/-- The three coordinates of a point: batch, head, step. -/
theorem co0 (t : Fin grid0.N) : (grid0.coords t 0).val = t.val / 4224 % 2 := Grid.coords_val t 0 (by decide) rfl
/-- A point's head. -/
theorem co1 (t : Fin grid0.N) : (grid0.coords t 1).val = t.val / 528 % 8 := Grid.coords_val t 1 (by decide) rfl
/-- A point's step along the triangle. -/
theorem co2 (t : Fin grid0.N) : (stp (grid0.coords t)).val = t.val / 1 % 528 := Grid.coords_val t 2 (by decide) rfl

/-- The diagonal test on the two words. -/
theorem cond2_iff (a b : BitVec 32) : k0_cond2 a b = 1#1 ↔ b = a := by
  unfold k0_cond2
  simp only [Scalar.cmpi, IntOp.cmpi, Scalar.extui]
  by_cases h : b = a
  · simp [h]
  · rw [beq_eq_false_iff_ne.mpr h]; simp [h]

/-- A point off the diagonal is followed by a point of the same row. -/
theorem next_row (t : Fin grid0.N) (h : lit1 (stp (grid0.coords t)) ≠ lit0 (stp (grid0.coords t))) :
    ∃ h' : t.val + 1 < grid0.N, grid0.coords ⟨t.val + 1, h'⟩ 0 = grid0.coords t 0 ∧ grid0.coords ⟨t.val + 1, h'⟩ 1 = grid0.coords t 1
      ∧ lit0 (stp (grid0.coords ⟨t.val + 1, h'⟩)) = lit0 (stp (grid0.coords t)) := by
  obtain ⟨h1, h2⟩ := word_next _ h
  have hN := N_0
  have c0 := co0 t; have c1 := co1 t; have c2 := co2 t
  have ht := t.isLt
  have h' : t.val + 1 < grid0.N := by omega
  have d0 := co0 ⟨t.val + 1, h'⟩; have d1 := co1 ⟨t.val + 1, h'⟩; have d2 := co2 ⟨t.val + 1, h'⟩
  dsimp only at d0 d1 d2
  refine ⟨h', Fin.ext ?_, Fin.ext ?_, ?_⟩
  · rw [c0, d0]; omega
  · rw [c1, d1]; omega
  · rw [← h2]; congr 1; apply Fin.ext; rw [d2]; show _ = (stp (grid0.coords t)).val + 1; omega

/-- Off the diagonal the result block is not written back. -/
theorem flush5 (t : Fin (cfgA (F := F)).N) (h : lit1 (stpt (F := F) t) ≠ lit0 (stpt (F := F) t)) : ((cfgA (F := F)).win (5 : Fin 6)).flush t = false := by
  obtain ⟨h', e0, e1, e2⟩ := next_row t h
  have key : Window.flushOf grid0 true (cc0_transform_5 k0_off1_inb numel1_S1 (tabs (F := F))) t = false := by
    unfold Window.flushOf
    rw [Bool.true_and, Bool.or_eq_false_iff]
    refine ⟨decide_eq_false (Nat.ne_of_lt h'), decide_eq_false ?_⟩
    rintro ⟨h'', hne⟩
    refine hne ?_
    rw [map5, map5, e0, e1, e2]
  exact key

/-- The result window is idle exactly off the diagonal. -/
theorem idle5 (t : Fin (cfgA (F := F)).N) : (cfgA (F := F)).idle (5 : Fin 6) ((cfgA (F := F)).grid.coords t)
    = !(k0_cond2 (lit0 (stpt (F := F) t)) (lit1 (stpt (F := F) t)) == 1#1) := by
  show (!(k0_cond2 ((tabs (F := F)).atD 0 (k0_off1 (grid0.coords t))) ((tabs (F := F)).atD 1 (k0_off1 (grid0.coords t))) == 1#1)) = _
  rw [tabs_atD0, tabs_atD1]

/-- A point's body takes the invariant to the next point's, whatever the buffers held before a row's first column. -/
theorem next_st (c : Dev nD) (t : Fin (cfgA (F := F)).N) (s : St F) (hs : t.val ≠ 0 → s = st m c t.val) :
    s.next (lit0 (stpt (F := F) t)) (lit1 (stpt (F := F) t)) (x1 m c t) (x2 m c t) (x3 m c t) = st m c (t.val + 1) := by
  rw [st_succ]
  by_cases h : t.val = 0
  · have e : stpt (F := F) t = ⟨0, by decide⟩ := Fin.ext (by have := co2 t; rw [h] at this; exact this)
    rw [e]
    exact next_zero _ _ _ _ _ _
  · rw [hs h]

/-- The body's run at a point, its windows' buffers owned at their contents. -/
theorem kern_owns (c : Dev nD) (i : grid0.Coords)
    (arg5 : Memref sig .tc .vmem S8x128 .f32) (harg5 : arg5.IsWhole) (arg6 : Memref sig .tc .vmem S512x128 .bf16) (harg6 : arg6.IsWhole)
    (arg7 : Memref sig .tc .vmem S512x128 .bf16) (harg7 : arg7.IsWhole) (arg8 : Memref sig .tc .vmem S512x128 .bf16) (harg8 : arg8.IsWhole)
    (arg9 : Memref sig .tc .vmem S1x1x128 .f32) (harg9 : arg9.IsWhole) (arg10 : Memref sig .tc .vmem S512x128 .bf16) (harg10 : arg10.IsWhole)
    (X0 : Vec F S8x128 .f32) (X1 X2 X3 : Vec F S512x128 .bf16) (X4 : Vec F S1x1x128 .f32) (d : Vec F S512x128 .bf16)
    (s s' : St F) (T0 T1 : Vec F S528 .i32) (w0 w1 : BitVec 32)
    (hw0 : T0 ((Rect.unit (s := S528) (k0_off1 i) S1.size (k0_off1_inb i)).idx (Shape.Idx.first (numel1_S1.symm ▸ Nat.one_pos))) = w0)
    (hw1 : T1 ((Rect.unit (s := S528) (k0_off1 i) S1.size (k0_off1_inb i)).idx (Shape.Idx.first (numel1_S1.symm ▸ Nat.one_pos))) = w1)
    (hs : s.next w0 w1 X1 X2 X3 = s') (K : PUnit → sProp 𝕄) :
    iprop(owns (c : Thread nD τ) arg5 fullShare X0 ∗ owns (c : Thread nD τ) arg6 fullShare X1 ∗ owns (c : Thread nD τ) arg7 fullShare X2 ∗ owns (c : Thread nD τ) arg8 fullShare X3 ∗ owns (c : Thread nD τ) arg9 fullShare X4 ∗ owns (c : Thread nD τ) arg10 fullShare d
      ∗ (tb0.view.loc (c : Thread nD τ) ↦{fullShare.right} T0) ∗ (tb1.view.loc (c : Thread nD τ) ↦{fullShare.right} T1)
      ∗ (sc0.view.loc (c : Thread nD τ) ↦{fullShare} s.m) ∗ (sc1.view.loc (c : Thread nD τ) ↦{fullShare} s.l) ∗ (sc2.view.loc (c : Thread nD τ) ↦{fullShare} s.a)
      ∗ (iprop(owns (c : Thread nD τ) arg5 fullShare X0 ∗ owns (c : Thread nD τ) arg6 fullShare X1 ∗ owns (c : Thread nD τ) arg7 fullShare X2 ∗ owns (c : Thread nD τ) arg8 fullShare X3 ∗ owns (c : Thread nD τ) arg9 fullShare X4
      ∗ owns (c : Thread nD τ) arg10 fullShare (if k0_cond2 w0 w1 = 1#1 then St.out X0 X4 s' else d)
      ∗ (tb0.view.loc (c : Thread nD τ) ↦{fullShare.right} T0) ∗ (tb1.view.loc (c : Thread nD τ) ↦{fullShare.right} T1)
      ∗ (sc0.view.loc (c : Thread nD τ) ↦{fullShare} s'.m) ∗ (sc1.view.loc (c : Thread nD τ) ↦{fullShare} s'.l) ∗ (sc2.view.loc (c : Thread nD τ) ↦{fullShare} s'.a)) -∗ K ⟨⟩))
    ⊢ wp frame (wpE (defs₀ (F := F)) Variants.none c none) Set.univ
        (cc0_diff_flash (F := F) i (Memref.whole main_c) (Memref.isWhole_whole _) (Memref.whole main_c_0) (Memref.isWhole_whole _)
          arg5 harg5 arg6 harg6 arg7 harg7 arg8 harg8 arg9 harg9 arg10 harg10
          (Memref.whole cc0_scratch0) (Memref.isWhole_whole _) (Memref.whole cc0_scratch1) (Memref.isWhole_whole _) (Memref.whole cc0_scratch2) (Memref.isWhole_whole _)) K := by
  have h := kern c i arg5 harg5 arg6 harg6 arg7 harg7 arg8 harg8 arg9 harg9 arg10 harg10 X0 X1 X2 X3 X4 d s T0 T1 w0 w1 hw0 hw1 K
  rw [hs] at h
  simp only [owns_eq_rep] at h ⊢
  exact h

/-- The body at point `t`, as the pipeline calls it. -/
abbrev bodyAt (t : Fin (cfgA (F := F)).N) : Prog (TpuEff nD τ sig (Elt F) Λ₀ .tc) PUnit :=
  cc0_diff_flash (F := F) (grid0.coords t) (Memref.whole main_c) (Memref.isWhole_whole _) (Memref.whole main_c_0) (Memref.isWhole_whole _)
    (((cfgA (F := F)).win (0 : Fin 6)).stage ((cfgA (F := F)).slots t (0 : Fin 6))) (hstage0_0 (((cfgA (F := F)).slots t (0 : Fin 6)).cast nbuf0_0)) (((cfgA (F := F)).win (1 : Fin 6)).stage ((cfgA (F := F)).slots t (1 : Fin 6))) (hstage0_1 (((cfgA (F := F)).slots t (1 : Fin 6)).cast nbuf0_1)) (((cfgA (F := F)).win (2 : Fin 6)).stage ((cfgA (F := F)).slots t (2 : Fin 6))) (hstage0_2 (((cfgA (F := F)).slots t (2 : Fin 6)).cast nbuf0_2)) (((cfgA (F := F)).win (3 : Fin 6)).stage ((cfgA (F := F)).slots t (3 : Fin 6))) (hstage0_3 (((cfgA (F := F)).slots t (3 : Fin 6)).cast nbuf0_3)) (((cfgA (F := F)).win (4 : Fin 6)).stage ((cfgA (F := F)).slots t (4 : Fin 6))) (hstage0_4 (((cfgA (F := F)).slots t (4 : Fin 6)).cast nbuf0_4)) (((cfgA (F := F)).win (5 : Fin 6)).stage ((cfgA (F := F)).slots t (5 : Fin 6))) (hstage0_5 (((cfgA (F := F)).slots t (5 : Fin 6)).cast nbuf0_5))
    (Memref.whole cc0_scratch0) (Memref.isWhole_whole _) (Memref.whole cc0_scratch1) (Memref.isWhole_whole _) (Memref.whole cc0_scratch2) (Memref.isWhole_whole _)

set_option maxHeartbeats 4000000 in
/-- The body obligation at every point. -/
theorem body_obligation (c : Dev nD) : BodyObligation (dats m 0 c) (defs₀ (F := F)) Variants.none () Set.univ := fun t => by
  rw [bigSep_W0, bigSep_W0]
  have i0 : (cfgA (F := F)).idle (0 : Fin 6) ((cfgA (F := F)).grid.coords t) = false := rfl
  have e : (defs₀ (F := F)) .tc (cfgA (F := F)).body ((cfgA (F := F)).bodyArgs t ((cfgA (F := F)).slots t)) = bodyAt t := rfl
  rewrite [e, i0]
  rewrite [show (dats m 0 c).Φ t.succ = Phi m c t.succ.val from rfl, show (dats m 0 c).Φ t.castSucc = Phi m c t.castSucc.val from rfl,
    show (dats m 0 c).owesAt () t.succ = (dats m 0 c).owesAt () t.castSucc from rfl]
  rewrite [Fin.val_castSucc, Fin.val_succ]
  unfold Phi
  by_cases hd : lit1 (stpt (F := F) t) = lit0 (stpt (F := F) t)
  · have i5 : (cfgA (F := F)).idle (5 : Fin 6) ((cfgA (F := F)).grid.coords t) = false := by rw [idle5, (cond2_iff _ _).mpr hd]; rfl
    rewrite [i5]
    simp only [before0, before1, before2, before3, before4, after0, after1, after2, after3, after4, after5]
    iintro ⟨⟨⟨%s, %hs, HS0, HS1, HS2⟩, ⟨HT0, HT1⟩, Hg⟩, Ho, ⟨%d0, H0⟩, ⟨%d1, H1⟩, ⟨%d2, H2⟩, ⟨%d3, H3⟩, ⟨%d4, H4⟩, ⟨%d5, H5⟩⟩
    iapply (kern_owns c (grid0.coords t) (((cfgA (F := F)).win (0 : Fin 6)).stage ((cfgA (F := F)).slots t (0 : Fin 6))) (hstage0_0 (((cfgA (F := F)).slots t (0 : Fin 6)).cast nbuf0_0)) (((cfgA (F := F)).win (1 : Fin 6)).stage ((cfgA (F := F)).slots t (1 : Fin 6))) (hstage0_1 (((cfgA (F := F)).slots t (1 : Fin 6)).cast nbuf0_1)) (((cfgA (F := F)).win (2 : Fin 6)).stage ((cfgA (F := F)).slots t (2 : Fin 6))) (hstage0_2 (((cfgA (F := F)).slots t (2 : Fin 6)).cast nbuf0_2)) (((cfgA (F := F)).win (3 : Fin 6)).stage ((cfgA (F := F)).slots t (3 : Fin 6))) (hstage0_3 (((cfgA (F := F)).slots t (3 : Fin 6)).cast nbuf0_3)) (((cfgA (F := F)).win (4 : Fin 6)).stage ((cfgA (F := F)).slots t (4 : Fin 6))) (hstage0_4 (((cfgA (F := F)).slots t (4 : Fin 6)).cast nbuf0_4)) (((cfgA (F := F)).win (5 : Fin 6)).stage ((cfgA (F := F)).slots t (5 : Fin 6))) (hstage0_5 (((cfgA (F := F)).slots t (5 : Fin 6)).cast nbuf0_5))
      (x0 m c t) (x1 m c t) (x2 m c t) (x3 m c t) (x4 m c t) _ s (st m c (t.val + 1)) (tabs (F := F) 0) (tabs (F := F) 1) (lit0 (stpt (F := F) t)) (lit1 (stpt (F := F) t))
      (congrArg lit0 (word_idx (grid0.coords t) _ rfl)) (congrArg lit1 (word_idx (grid0.coords t) _ rfl)) (next_st m c t s hs))
    rewrite [if_pos ((cond2_iff _ _).mpr hd)]
    isplitl [H0]; · iexact H0
    isplitl [H1]; · iexact H1
    isplitl [H2]; · iexact H2
    isplitl [H3]; · iexact H3
    isplitl [H4]; · iexact H4
    isplitl [H5]; · iexact H5
    isplitl [HT0]; · iexact HT0
    isplitl [HT1]; · iexact HT1
    isplitl [HS0]; · iexact HS0
    isplitl [HS1]; · iexact HS1
    isplitl [HS2]; · iexact HS2
    iintro ⟨H0, H1, H2, H3, H4, H5, HT0, HT1, HS0, HS1, HS2⟩
    isplitl [HS0 HS1 HS2 HT0 HT1 Hg]
    · isplitl [HS0 HS1 HS2]
      · iexists (st m c (t.val + 1))
        isplitr; · ipureintro; intro _; rfl
        isplitl [HS0]; · iexact HS0
        isplitl [HS1]; · iexact HS1
        iexact HS2
      isplitr [Hg]
      · isplitl [HT0]; · iexact HT0
        iexact HT1
      iexact Hg
    isplitl [Ho]; · iexact Ho
    isplitl [H0]; · iexact H0
    isplitl [H1]; · iexact H1
    isplitl [H2]; · iexact H2
    isplitl [H3]; · iexact H3
    isplitl [H4]; · iexact H4
    iexact H5
  · have i5 : (cfgA (F := F)).idle (5 : Fin 6) ((cfgA (F := F)).grid.coords t) = true := by rw [idle5, Bool.not_eq_true', beq_eq_false_iff_ne]; exact fun h => hd ((cond2_iff _ _).mp h)
    have f5 := flush5 t hd
    rewrite [i5]
    simp only [before0, before1, before2, before3, before4, after0, after1, after2, after3, after4, f5]
    iintro ⟨⟨⟨%s, %hs, HS0, HS1, HS2⟩, ⟨HT0, HT1⟩, Hg⟩, Ho, ⟨%d0, H0⟩, ⟨%d1, H1⟩, ⟨%d2, H2⟩, ⟨%d3, H3⟩, ⟨%d4, H4⟩, ⟨%d5, H5⟩⟩
    iapply (kern_owns c (grid0.coords t) (((cfgA (F := F)).win (0 : Fin 6)).stage ((cfgA (F := F)).slots t (0 : Fin 6))) (hstage0_0 (((cfgA (F := F)).slots t (0 : Fin 6)).cast nbuf0_0)) (((cfgA (F := F)).win (1 : Fin 6)).stage ((cfgA (F := F)).slots t (1 : Fin 6))) (hstage0_1 (((cfgA (F := F)).slots t (1 : Fin 6)).cast nbuf0_1)) (((cfgA (F := F)).win (2 : Fin 6)).stage ((cfgA (F := F)).slots t (2 : Fin 6))) (hstage0_2 (((cfgA (F := F)).slots t (2 : Fin 6)).cast nbuf0_2)) (((cfgA (F := F)).win (3 : Fin 6)).stage ((cfgA (F := F)).slots t (3 : Fin 6))) (hstage0_3 (((cfgA (F := F)).slots t (3 : Fin 6)).cast nbuf0_3)) (((cfgA (F := F)).win (4 : Fin 6)).stage ((cfgA (F := F)).slots t (4 : Fin 6))) (hstage0_4 (((cfgA (F := F)).slots t (4 : Fin 6)).cast nbuf0_4)) (((cfgA (F := F)).win (5 : Fin 6)).stage ((cfgA (F := F)).slots t (5 : Fin 6))) (hstage0_5 (((cfgA (F := F)).slots t (5 : Fin 6)).cast nbuf0_5))
      (x0 m c t) (x1 m c t) (x2 m c t) (x3 m c t) (x4 m c t) _ s (st m c (t.val + 1)) (tabs (F := F) 0) (tabs (F := F) 1) (lit0 (stpt (F := F) t)) (lit1 (stpt (F := F) t))
      (congrArg lit0 (word_idx (grid0.coords t) _ rfl)) (congrArg lit1 (word_idx (grid0.coords t) _ rfl)) (next_st m c t s hs))
    rewrite [if_neg (fun h => hd ((cond2_iff _ _).mp h))]
    isplitl [H0]; · iexact H0
    isplitl [H1]; · iexact H1
    isplitl [H2]; · iexact H2
    isplitl [H3]; · iexact H3
    isplitl [H4]; · iexact H4
    isplitl [H5]; · iexact H5
    isplitl [HT0]; · iexact HT0
    isplitl [HT1]; · iexact HT1
    isplitl [HS0]; · iexact HS0
    isplitl [HS1]; · iexact HS1
    isplitl [HS2]; · iexact HS2
    iintro ⟨H0, H1, H2, H3, H4, H5, HT0, HT1, HS0, HS1, HS2⟩
    isplitl [HS0 HS1 HS2 HT0 HT1 Hg]
    · isplitl [HS0 HS1 HS2]
      · iexists (st m c (t.val + 1))
        isplitr; · ipureintro; intro _; rfl
        isplitl [HS0]; · iexact HS0
        isplitl [HS1]; · iexact HS1
        iexact HS2
      isplitr [Hg]
      · isplitl [HT0]; · iexact HT0
        iexact HT1
      iexact Hg
    isplitl [Ho]; · iexact Ho
    isplitl [H0]; · iexact H0
    isplitl [H1]; · iexact H1
    isplitl [H2]; · iexact H2
    isplitl [H3]; · iexact H3
    isplitl [H4]; · iexact H4
    iexists d5
    iexact H5

end Cert.KernelIdeal.Att

end
-- ==== Proof.GridI.lean ====
/- The whole launch of the attention kernel (KernelIdeal): it ends, its arguments unchanged, its result at the grid's computed contents. -/
module

public import proofs.«01_k».proof.Proof.FrameI
public import Idealize.ShloMosaic.Lib.Pipeline.Frame
public import Idealize.ShloMosaic.Lib.Pipeline.FrameBody
public import Idealize.ShloMosaic.Lib.Pipeline.TableIdle
public import Idealize.ShloMosaic.Lib.Pipeline.Kit
public import Idealize.ShloMosaic.Lib.Tactic
public import Idealize.ShloMosaic.Lib.Claim

@[expose] public section

set_option maxRecDepth 16384

noncomputable section

namespace Cert.KernelIdeal.Att

open Idealize.ShloMosaic Idealize.ShloMosaic.TcCoe Idealize.ShloMosaic.Pipeline
open Idealize.SL Idealize.SL.RA Idealize.SL.BI
open scoped Idealize.SL.BI
open Idealize.SL.BI.BIBase Idealize.SL.BI.Laws Idealize.SL.Sem Idealize.SL.ProofMode
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-- What the host operations before the call write. -/
theorem hostOps0_writes : (hostOps0 : List (HloOp τ sig (Elt F))).Forall fun op => op.writes ⊆ (hostOps0_W.map Proc.tc.devRef).toFinset :=
  StableHlo.forall_writes_sub_of_map rfl

/-- A buffer the host operations do not write is at its launch contents when the region is entered. -/
theorem V_keep (c : Dev nD) (b : Ref sig .tc) (h : b ∉ hostOps0_W) : V m c b = m ((c : Thread nD τ).loc b) :=
  StableHlo.after_of_writes_sub hostOps0 _ hostOps0_writes h

/-- The tables' contents when the region is entered. -/
theorem V_tab0 (c : Dev nD) : V m c main_c = fun i => lit0 (S528.rowMajor i) := by
  unfold V
  after_results
  rfl

/-- The second table, as the call finds it. -/
theorem V_tab1 (c : Dev nD) : V m c main_c_0 = fun i => lit1 (S528.rowMajor i) := by
  unfold V
  after_results
  rfl

/-- The tables as the launch hands them over, one by one. -/
theorem prefHeld_eq (c : Dev nD) (v : pre0.Contents (Elt F)) :
    (prefHeld (Ix := Unit) (Name := ℕ) (U := UR sig nD τ) (Lvl := ℕ) pre0 c (fun _ => fullShare.right) v : sProp 𝕄)
      = iprop((tb0.view.loc (c : Thread nD τ) ↦{fullShare.right} v 0) ∗ (tb1.view.loc (c : Thread nD τ) ↦{fullShare.right} v 1)) := by
  unfold prefHeld
  rw [show (Finset.univ : Finset (Fin 2)) = insert (0 : Fin 2) {(1 : Fin 2)} from by decide, bigSep_insert (by decide), bigSep_singleton]
  rfl

/-- The invariant at the first point, from the scratch buffers at anything and the tables. -/
theorem phi_intro (c : Dev nD) :
    iprop(ΦA (U := UR sig nD τ) (Val := Elt F) spec0 c ∗ ΦT (U := UR sig nD τ) pre0 (tabs (F := F)) c) ⊢ Phi m c 0 := by
  unfold ΦA ΦT
  rw [scopedRest0_eq, prefHeld_eq]
  unfold Phi
  iintro ⟨⟨⟨⟨%f0, HS0⟩, ⟨%f1, HS1⟩, ⟨%f2, HS2⟩⟩, Hg⟩, HT0, HT1⟩
  isplitl [HS0 HS1 HS2]
  · iexists (⟨f0, f1, f2⟩ : St F)
    isplitr; · ipureintro; intro h; exact absurd rfl h
    isplitl [HS0]; · iexact HS0
    isplitl [HS1]; · iexact HS1
    iexact HS2
  isplitr [Hg]
  · isplitl [HT0]; · iexact HT0
    iexact HT1
  iexact Hg

/-- At any point it gives the scratch buffers back. -/
theorem phi_exit (c : Dev nD) (n : ℕ) : Phi m c n ⊢ ΦA (U := UR sig nD τ) (Val := Elt F) spec0 c := by
  unfold ΦA
  rw [scopedRest0_eq]
  unfold Phi
  iintro ⟨⟨%s, -, HS0, HS1, HS2⟩, -, Hg⟩
  isplitr [Hg]
  · isplitl [HS0]; · iexists s.m; iexact HS0
    isplitl [HS1]; · iexists s.l; iexact HS1
    iexists s.a; iexact HS2
  iexact Hg

/-- Every window has the whole share of its array. -/
theorem share_eq (c : Dev nD) (w : Fin (cfgA (F := F)).W) : (dats m 0 c).share w = fullShare := by
  unfold Dat.share; split <;> rfl

set_option backward.isDefEq.respectTransparency.types false in
set_option maxHeartbeats 4000000 in
/-- Every execution ends, each array at the computed contents, the other buffers as the region found them, every counter at zero. -/
theorem run_main (g : Dev nD → PrngReg) :
    θ_run (defs (F := F)) (onTc (τ := τ) (main (F := F))) ⟨m, fun _ => 0, g⟩
      (fun r => FramePost (pin (pcfgs (F := F)) adm) (dats m) 0 (V m) r ∧ r.2.sem = fun _ => 0) :=
  θ_run_frameP_track (Q' := _) (pcfgs (F := F)) adm (dats m) 0 launch0 defs₀ Variants.none m g main
    (fun c => (body_obligation m c).loose) (share_eq m) (fun _ _ => rfl) (V m)
    (hmainP_prefix pcfgs 0 defs₀ Variants.none m main hostOps0 hostOps0_sub hostOps0_fresh main_chain)
    (fun _ _ => rfl)
    (fun c k => match k with
      | ⟨0, _⟩ => V_tab0 m c
      | ⟨1, _⟩ => V_tab1 m c
      | ⟨_ + 2, h⟩ => absurd h (Nat.not_lt.2 (Nat.le_add_left _ _)))
    (fun c => phi_intro m c) (fun c => phi_exit m c _)

/-- At the end of a run the arguments are as at its start. -/
theorem args_keep (r : PUnit × MemSt nD τ sig (Elt F)) (h : FramePost (pin (pcfgs (F := F)) adm) (dats m) 0 (V m) r) (c : Dev nD) :
    r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  ⟨((h c).1 (1 : Fin 6)).trans (((dats m 0 c).arrAt_in (1 : Fin 6) rfl _).trans (V_keep m c main_arg0 (by decide))),
    ((h c).1 (2 : Fin 6)).trans (((dats m 0 c).arrAt_in (2 : Fin 6) rfl _).trans (V_keep m c main_arg1 (by decide))),
    ((h c).1 (3 : Fin 6)).trans (((dats m 0 c).arrAt_in (3 : Fin 6) rfl _).trans (V_keep m c main_arg2 (by decide))),
    ((h c).2 main_arg3 (show main_arg3 ∈ restRefs sig spec0 by decide)).trans (V_keep m c main_arg3 (by decide)),
    ((h c).2 main_arg4 (show main_arg4 ∈ restRefs sig spec0 by decide)).trans (V_keep m c main_arg4 (by decide)),
    ((h c).2 main_arg5 (show main_arg5 ∈ restRefs sig spec0 by decide)).trans (V_keep m c main_arg5 (by decide)),
    ((h c).2 main_arg6 (show main_arg6 ∈ restRefs sig spec0 by decide)).trans (V_keep m c main_arg6 (by decide)),
    ((h c).2 main_arg7 (show main_arg7 ∈ restRefs sig spec0 by decide)).trans (V_keep m c main_arg7 (by decide))⟩

/-- Every execution ends, the arguments unchanged and every counter at zero. -/
theorem frame_run (g : Dev nD → PrngReg) :
    θ_run (defs (F := F)) (onTc (τ := τ) (main (F := F))) ⟨m, fun _ => 0, g⟩ (fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7))
      ∧ r.2.sem = fun _ => 0) :=
  (θ_run defs _ _).mono (fun r h => ⟨args_keep m r h.1, h.2⟩) (run_main m g)

end Cert.KernelIdeal.Att

end
-- ==== Proof.RefI.lean ====
/- The reference (ReferenceIdeal): it is host operations only; its run. -/
module

public import proofs.«01_k».proof.Defs
public import proofs.«01_k».proof.Proof.Gen.ReferenceIdeal
public import Idealize.ShloMosaic.Lib.Claim
public import Idealize.ShloMosaic.Lib.StableHlo.RunHlo
public import Idealize.ShloMosaic.Lib.Quiescent

@[expose] public section

set_option maxRecDepth 16384

noncomputable section

namespace Cert.ReferenceIdeal.Att

open Idealize.ShloMosaic Idealize.ShloMosaic.TcCoe Idealize.SL.Sem
open Cert.ReferenceIdeal Cert.ReferenceIdeal.Gen

set_option maxHeartbeats 4000000 in
/-- The reference ends, its arguments unchanged, every counter at zero. -/
theorem frame_ref : Cert.quiescent_ReferenceIdeal := by
  intro m g hpre
  have h := StableHlo.run_hlo (defs (F := Ideal)) (main (F := Ideal)) (by hlo_seq) (by decide) (by decide) (by simp)
    (by intro _ h; (repeat (cases h with | head => rfl | tail _ h => ?_)); exact nomatch h) m g
  refine θ_run_mono h fun r hr => ⟨?_, sem_eq_zero_of_no_sems (by decide) r.2⟩
  clear h
  intro c
  have hc := hr c
  and_intros
  all_goals run_conjunct

end Cert.ReferenceIdeal.Att

end
-- ==== Proof.Soft.lean ====
/- The mathematics of the attention row over the extended reals: a running maximum and sums rescaled to it, against the
   sums taken at once; the two maps' difference; the root mean square. -/
module

public import Idealize.ShloMosaic.PureOps.Ideal
public import Mathlib.Data.EReal.Basic
public import Mathlib.Algebra.BigOperators.Fin

@[expose] public section

noncomputable section

namespace Cert.Att

open Idealize.ShloMosaic
open scoped BigOperators

/-- The weight of a score below a maximum: its exponential, zero where the score or the maximum is infinite. -/
def wt (x m : EReal) : ℝ := if x = ⊥ ∨ m = ⊥ ∨ m = ⊤ then 0 else Real.exp (x.toReal - m.toReal)

/-- The exponential of a score less a maximum that bounds it is the weight. -/
theorem exp_sub (x m : EReal) (h : x ≤ m) : Ideal.exp (x - m) = ((wt x m : ℝ) : EReal) := by
  have hb : Ideal.exp (⊥ : EReal) = 0 := rfl
  have hc : ∀ r : ℝ, Ideal.exp (r : EReal) = ((Real.exp r : ℝ) : EReal) := fun _ => rfl
  induction m using EReal.rec with
  | bot => rw [le_bot_iff.mp h, sub_eq_add_neg, EReal.bot_add, hb]; simp [wt]
  | top => rw [EReal.sub_top, hb]; simp [wt]
  | coe m =>
    induction x using EReal.rec with
    | bot => rw [sub_eq_add_neg, EReal.bot_add, hb]; simp [wt]
    | top => exact absurd h (by simp)
    | coe x =>
      rw [← EReal.coe_sub, hc]
      simp [wt]

/-- A weight is not negative. -/
theorem wt_nonneg (x m : EReal) : 0 ≤ wt x m := by
  unfold wt; split
  · exact le_rfl
  · exact (Real.exp_pos _).le

/-- Rescaling a weight from one maximum to a greater one. -/
theorem wt_mul (x m m' : EReal) (h : x ≤ m) (h' : m ≤ m') : wt m m' * wt x m = wt x m' := by
  unfold wt
  by_cases h1 : x = ⊥
  · simp [h1]
  have h2 : m ≠ ⊥ := fun e => h1 (le_bot_iff.mp (e ▸ h))
  have h3 : m' ≠ ⊥ := fun e => h2 (le_bot_iff.mp (e ▸ h'))
  by_cases h4 : m' = ⊤
  · simp [h4]
  have h5 : m ≠ ⊤ := fun e => h4 (top_le_iff.mp (e ▸ h'))
  simp only [h1, h2, h3, h4, h5, or_self, if_false]
  rw [← Real.exp_add]; congr 1; ring

/-- The weight of minus infinity is zero. -/
theorem wt_bot (m : EReal) : wt ⊥ m = 0 := by simp [wt]

/-- The maximum of the first `n` scores. -/
def mx (t : ℕ → EReal) (n : ℕ) : EReal := (Finset.range n).sup t

/-- The weighted sum of the first `n` values, the weights taken below the first `n` scores' maximum. -/
def sv (t : ℕ → EReal) (v : ℕ → ℝ) (n : ℕ) : ℝ := ∑ j ∈ Finset.range n, wt (t j) (mx t n) * v j

/-- A score is at most the maximum. -/
theorem le_mx (t : ℕ → EReal) {j n : ℕ} (h : j < n) : t j ≤ mx t n := Finset.le_sup (Finset.mem_range.mpr h)

/-- The maximum grows with the number of scores. -/
theorem mx_mono (t : ℕ → EReal) {n n' : ℕ} (h : n ≤ n') : mx t n ≤ mx t n' :=
  Finset.sup_mono (Finset.range_subset_range.mpr h)

/-- The maximum over a further block. -/
theorem mx_add (t : ℕ → EReal) (n B : ℕ) : mx t (n + B) = max (mx t n) ((Finset.range B).sup fun i => t (n + i)) := by
  induction B with
  | zero => simp
  | succ B ih =>
    unfold mx at ih ⊢
    rw [← Nat.add_assoc, Finset.range_add_one, Finset.sup_insert, ih, Finset.range_add_one, Finset.sup_insert]
    exact sup_left_comm _ _ _

/-- The weighted sum over a further block: the sum so far rescaled to the new maximum, and the block's. -/
theorem sv_add (t : ℕ → EReal) (v : ℕ → ℝ) (n B : ℕ) :
    sv t v (n + B) = wt (mx t n) (mx t (n + B)) * sv t v n + ∑ i ∈ Finset.range B, wt (t (n + i)) (mx t (n + B)) * v (n + i) := by
  unfold sv
  rw [Finset.sum_range_add, Finset.mul_sum]
  congr 1
  refine Finset.sum_congr rfl fun j hj => ?_
  rw [← mul_assoc, wt_mul _ _ _ (le_mx t (Finset.mem_range.mp hj)) (mx_mono t (Nat.le_add_right n B))]

/-- Scores of minus infinity past the first `n` do not move the maximum. -/
theorem mx_tail (t : ℕ → EReal) (n B : ℕ) (h : ∀ j, n ≤ j → t j = ⊥) : mx t (n + B) = mx t n := by
  rw [mx_add]
  refine max_eq_left (Finset.sup_le fun i _ => ?_)
  rw [h _ (Nat.le_add_right n i)]; exact bot_le

/-- Nor the weighted sum. -/
theorem sv_tail (t : ℕ → EReal) (v : ℕ → ℝ) (n B : ℕ) (h : ∀ j, n ≤ j → t j = ⊥) : sv t v (n + B) = sv t v n := by
  unfold sv
  rw [Finset.sum_range_add, mx_tail t n B h]
  simp only [h _ (Nat.le_add_right n _), wt_bot, zero_mul, Finset.sum_const_zero, add_zero]

/-- The maximum of a block folded from minus infinity. -/
theorem fold_max (B : ℕ) (f : ℕ → EReal) :
    (Finset.univ : Finset (Fin B)).fold max ⊥ (fun k => f k.val) = (Finset.range B).sup f := by
  show (Finset.univ : Finset (Fin B)).sup (fun k => f k.val) = _
  refine le_antisymm (Finset.sup_le fun k _ => Finset.le_sup (f := f) (Finset.mem_range.mpr k.isLt)) (Finset.sup_le fun i hi => ?_)
  exact Finset.le_sup (f := fun k : Fin B => f k.val) (Finset.mem_univ ⟨i, Finset.mem_range.mp hi⟩)

/-- A sum of reals, read in the extended reals. -/
theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The maximum after a block, as the kernel takes it. -/
theorem step_mx (t : ℕ → EReal) (n B : ℕ) :
    max (mx t n) ((Finset.univ : Finset (Fin B)).fold max ⊥ (fun k => t (n + k.val))) = mx t (n + B) := by
  rw [fold_max B (fun i => t (n + i)), mx_add]

/-- The weighted sum after a block, as the kernel takes it. -/
theorem step_sv (t : ℕ → EReal) (v : ℕ → ℝ) (n B : ℕ) :
    Ideal.exp (mx t n - mx t (n + B)) * ((sv t v n : ℝ) : EReal)
      + ∑ k : Fin B, Ideal.exp (t (n + k.val) - mx t (n + B)) * ((v (n + k.val) : ℝ) : EReal) = ((sv t v (n + B) : ℝ) : EReal) := by
  rw [sv_add, exp_sub _ _ (mx_mono t (Nat.le_add_right n B)), EReal.coe_add, EReal.coe_mul]
  congr 1
  rw [Finset.sum_range, ← coe_sum]
  refine Finset.sum_congr rfl fun k _ => ?_
  rw [exp_sub _ _ (le_mx t (Nat.add_lt_add_left k.isLt n)), EReal.coe_mul]

/-- The denominator after a block, as the kernel takes it. -/
theorem step_sm (t : ℕ → EReal) (n B : ℕ) :
    Ideal.exp (mx t n - mx t (n + B)) * ((sv t (fun _ => 1) n : ℝ) : EReal)
      + ∑ k : Fin B, Ideal.exp (t (n + k.val) - mx t (n + B)) = ((sv t (fun _ => 1) (n + B) : ℝ) : EReal) := by
  rw [← step_sv]
  simp only [EReal.coe_one, mul_one]

/-- Of no scores the maximum is minus infinity. -/
theorem mx_zero (t : ℕ → EReal) : mx t 0 = ⊥ := by simp [mx]

/-- Of no scores the sum is zero. -/
theorem sv_zero (t : ℕ → EReal) (v : ℕ → ℝ) : sv t v 0 = 0 := by simp [sv]

/-- A row divided by its root mean square. -/
def rms (x : Fin 128 → EReal) (a b : ℝ) (d : Fin 128) : EReal :=
  x d * Ideal.rsqrt (Ideal.div (∑ e, x e * x e) (a : EReal) + (b : EReal))

/-- A finite sum of terms none of which is negative, one of them infinite, is infinite. -/
theorem sum_top {ι : Type} (s : Finset ι) (f : ι → EReal) (h0 : ∀ i ∈ s, 0 ≤ f i) (i : ι) (hi : i ∈ s) (h : f i = ⊤) : ∑ i ∈ s, f i = ⊤ :=
  top_le_iff.mp (h ▸ Finset.single_le_sum h0 hi)

/-- A row of zeros and infinities is zero after the normalization. -/
theorem rms_zero (x : Fin 128 → EReal) (a b : ℝ) (ha : 0 < a) (h : ∀ d, x d = 0 ∨ x d = ⊥ ∨ x d = ⊤) (d : Fin 128) : rms x a b d = 0 := by
  unfold rms
  by_cases hz : x d = 0
  · rw [hz, zero_mul]
  have hd : x d * x d = ⊤ := by
    rcases h d with h | h | h
    · exact absurd h hz
    · rw [h]; rfl
    · rw [h]; rfl
  rw [sum_top Finset.univ (fun e => x e * x e) (fun e _ => ?_) d (Finset.mem_univ d) hd]
  · have ha' : (a : EReal) ≠ 0 := by exact_mod_cast ha.ne'
    have : Ideal.div ⊤ (a : EReal) = ⊤ := by
      unfold Ideal.div
      rw [if_neg ha', ← EReal.coe_inv, EReal.top_mul_coe_of_pos (inv_pos.mpr ha)]
    rw [this, EReal.top_add_coe]
    show x d * 0 = 0
    exact mul_zero _
  · rcases h e with h | h | h <;> rw [h]
    · simp
    · exact le_top.trans_eq (by rfl)
    · exact le_top.trans_eq (by rfl)

/-- Values times one infinity add up to zero or to an infinity. -/
theorem inf_sum {N : ℕ} (v : Fin N → ℝ) (c : EReal) (hc : c = ⊥ ∨ c = ⊤) (s : Finset (Fin N)) :
    ∑ j ∈ s, ((v j : ℝ) : EReal) * c = 0 ∨ ∑ j ∈ s, ((v j : ℝ) : EReal) * c = ⊥ ∨ ∑ j ∈ s, ((v j : ℝ) : EReal) * c = ⊤ := by
  classical
  induction s using Finset.induction_on with
  | empty => simp
  | insert j s hj ih =>
    rw [Finset.sum_insert hj]
    have hv : ((v j : ℝ) : EReal) * c = 0 ∨ ((v j : ℝ) : EReal) * c = ⊥ ∨ ((v j : ℝ) : EReal) * c = ⊤ := by
      rcases lt_trichotomy (v j) 0 with h | h | h <;> rcases hc with rfl | rfl
      · exact .inr (.inr (EReal.coe_mul_bot_of_neg h))
      · exact .inr (.inl (EReal.coe_mul_top_of_neg h))
      · left; rw [h]; simp
      · left; rw [h]; simp
      · exact .inr (.inl (EReal.coe_mul_bot_of_pos h))
      · exact .inr (.inr (EReal.coe_mul_top_of_pos h))
    rcases hv with h | h | h <;> rcases ih with h' | h' | h' <;> rw [h, h'] <;> simp

/-- A quotient of reals, the divisor not zero. -/
theorem div_coe (x y : ℝ) (h : y ≠ 0) : Ideal.div (x : EReal) (y : EReal) = ((x / y : ℝ) : EReal) := by
  unfold Ideal.div
  rw [if_neg (by exact_mod_cast h), ← EReal.coe_inv, ← EReal.coe_mul, div_eq_mul_inv]

/-- Zero by zero is minus infinity. -/
theorem div_zero_zero : Ideal.div ((0 : ℝ) : EReal) ((0 : ℝ) : EReal) = ⊥ := by simp [Ideal.div]

/-- Minus infinity less anything. -/
theorem bot_sub' (y : EReal) : (⊥ : EReal) - y = ⊥ := by simp [sub_eq_add_neg]

/-- The difference of the two maps taken weight by weight, against the difference of the two quotients: equal after the
    normalization, also where a map's weights are all zero. -/
theorem rms_maps {N : ℕ} (w0 w1 : Fin N → ℝ) (h0 : ∀ j, 0 ≤ w0 j) (h1 : ∀ j, 0 ≤ w1 j) (lam : ℝ) (v : Fin N → Fin 128 → ℝ)
    (a b : ℝ) (ha : 0 < a) (d : Fin 128) :
    rms (fun d => ∑ j, ((v j d : ℝ) : EReal) * (Ideal.div (w0 j : EReal) ((∑ j, w0 j : ℝ) : EReal) - (lam : EReal) * Ideal.div (w1 j : EReal) ((∑ j, w1 j : ℝ) : EReal))) a b d
      = rms (fun d => Ideal.div ((∑ j, w0 j * v j d : ℝ) : EReal) ((∑ j, w0 j : ℝ) : EReal)
          - (lam : EReal) * Ideal.div ((∑ j, w1 j * v j d : ℝ) : EReal) ((∑ j, w1 j : ℝ) : EReal)) a b d := by
  by_cases e0 : ∑ j, w0 j = 0
  · have z0 : ∀ j, w0 j = 0 := fun j => (Finset.sum_eq_zero_iff_of_nonneg (fun j _ => h0 j)).mp e0 j (Finset.mem_univ j)
    simp only [z0, zero_mul, Finset.sum_const_zero, div_zero_zero, bot_sub']
    rw [rms_zero _ a b ha (fun d => inf_sum (fun j => v j d) ⊥ (.inl rfl) _), rms_zero _ a b ha (fun d => .inr (.inl rfl))]
  by_cases e1 : ∑ j, w1 j = 0
  · have z1 : ∀ j, w1 j = 0 := fun j => (Finset.sum_eq_zero_iff_of_nonneg (fun j _ => h1 j)).mp e1 j (Finset.mem_univ j)
    simp only [z1, zero_mul, Finset.sum_const_zero, div_zero_zero, div_coe _ _ e0]
    rcases lt_trichotomy lam 0 with h | h | h
    · rw [EReal.coe_mul_bot_of_neg h]
      simp only [sub_eq_add_neg, EReal.neg_top, EReal.add_bot]
      rw [rms_zero _ a b ha (fun d => inf_sum (fun j => v j d) ⊥ (.inl rfl) _), rms_zero _ a b ha (fun d => .inr (.inl rfl))]
    · subst h
      simp only [EReal.coe_zero, zero_mul, sub_zero]
      congr 1; funext d
      simp only [← EReal.coe_mul]
      rw [coe_sum, Finset.sum_div]
      congr 1
      exact Finset.sum_congr rfl fun j _ => by ring
    · rw [EReal.coe_mul_bot_of_pos h]
      simp only [sub_eq_add_neg, EReal.neg_bot, EReal.coe_add_top]
      rw [rms_zero _ a b ha (fun d => inf_sum (fun j => v j d) ⊤ (.inr rfl) _), rms_zero _ a b ha (fun d => .inr (.inr rfl))]
  simp only [div_coe _ _ e0, div_coe _ _ e1]
  congr 1; funext d
  simp only [← EReal.coe_mul, ← EReal.coe_sub]
  rw [coe_sum]
  congr 1
  rw [Finset.sum_div, Finset.sum_div, Finset.mul_sum, ← Finset.sum_sub_distrib]
  exact Finset.sum_congr rfl fun j _ => by ring

end Cert.Att

end
-- ==== Proof.PayI.lean ====
/- The attention kernel's stored values over the extended reals, index by index, and one grid point's step of the running
   maximum, denominator and sum. -/
module

public import proofs.«01_k».proof.Proof.KernI
public import proofs.«01_k».proof.Proof.Soft
public import Idealize.ShloMosaic.Lib.Pointwise
public import Idealize.ShloMosaic.Lib.Pipeline.ValueKit

@[expose] public section

set_option maxRecDepth 16384

noncomputable section

namespace Cert.KernelIdeal.Att

open Idealize.ShloMosaic Idealize.ShloMosaic.TcCoe
open Cert.KernelIdeal Cert.KernelIdeal.Gen
open Cert.Att

/-- Lane `x` of map `μ`'s half of a head. -/
def ln (μ : Fin 2) (x : Fin 64) : Fin 128 := ⟨64 * μ.val + x.val, by omega⟩

/-- The inner product of a query row and a key row over one map's lanes. -/
def dt (q k : Vec Ideal S512x128 .bf16) (μ : Fin 2) (r j : Fin 512) : EReal :=
  ∑ x : Fin 64, (q (ix2 r (ln μ x)) : EReal) * (k (ix2 j (ln μ x)) : EReal)

/-- A key block's scores of a query row: minus infinity past the diagonal. -/
def bs (Q K : ℕ) (q k : Vec Ideal S512x128 .bf16) (μ : Fin 2) (r j : Fin 512) : EReal :=
  if 512 * K + j.val ≤ 512 * Q + r.val then dt q k μ r j else ⊥

/-- The lanes of the first map are those below 64. -/
theorem lanes_lo : ∀ x : Fin 128, IntOp.cmpi CmpIPredicate.slt (BitVec.ofNat 32 x.val) 64#32 = if x.val < 64 then 1#1 else 0#1 := by decide
/-- The lanes of the second map are those from 64 on. -/
theorem lanes_hi : ∀ x : Fin 128, IntOp.cmpi CmpIPredicate.sge (BitVec.ofNat 32 x.val) 64#32 = if x.val < 64 then 0#1 else 1#1 := by decide

/-- A sum over all lanes that keeps the lower half. -/
theorem sum_lo (f : Fin 128 → EReal) :
    ∑ x : Fin 128, Scalar.select (IntOp.cmpi CmpIPredicate.slt (BitVec.ofNat 32 x.val) 64#32) (f x) (0 : EReal) = ∑ y : Fin 64, f (ln 0 y) := by
  rw [show (∑ x : Fin 128, Scalar.select (IntOp.cmpi CmpIPredicate.slt (BitVec.ofNat 32 x.val) 64#32) (f x) (0 : EReal))
    = ∑ x : Fin (64 + 64), Scalar.select (IntOp.cmpi CmpIPredicate.slt (BitVec.ofNat 32 x.val) 64#32) (f x) (0 : EReal) from rfl, Fin.sum_univ_add]
  rw [Finset.sum_eq_zero (s := Finset.univ) (f := fun i : Fin 64 => Scalar.select (IntOp.cmpi CmpIPredicate.slt (BitVec.ofNat 32 (Fin.natAdd 64 i).val) 64#32) (f (Fin.natAdd 64 i)) (0 : EReal)), add_zero]
  · refine Finset.sum_congr rfl fun y _ => ?_
    rw [lanes_lo (Fin.castAdd 64 y), if_pos (show (Fin.castAdd 64 y : Fin (64 + 64)).val < 64 from y.isLt)]
    show f _ = f _
    congr 1
    apply Fin.ext; show y.val = 64 * 0 + y.val; omega
  · intro y _
    rw [lanes_lo (Fin.natAdd 64 y), if_neg (by show ¬ (64 + y.val < 64); omega)]
    rfl

/-- A sum over all lanes that keeps the upper half. -/
theorem sum_hi (f : Fin 128 → EReal) :
    ∑ x : Fin 128, Scalar.select (IntOp.cmpi CmpIPredicate.sge (BitVec.ofNat 32 x.val) 64#32) (f x) (0 : EReal) = ∑ y : Fin 64, f (ln 1 y) := by
  rw [show (∑ x : Fin 128, Scalar.select (IntOp.cmpi CmpIPredicate.sge (BitVec.ofNat 32 x.val) 64#32) (f x) (0 : EReal))
    = ∑ x : Fin (64 + 64), Scalar.select (IntOp.cmpi CmpIPredicate.sge (BitVec.ofNat 32 x.val) 64#32) (f x) (0 : EReal) from rfl, Fin.sum_univ_add]
  rw [Finset.sum_eq_zero (s := Finset.univ) (f := fun i : Fin 64 => Scalar.select (IntOp.cmpi CmpIPredicate.sge (BitVec.ofNat 32 (Fin.castAdd 64 i).val) 64#32) (f (Fin.castAdd 64 i)) (0 : EReal)), zero_add]
  · refine Finset.sum_congr rfl fun y _ => ?_
    rw [lanes_hi (Fin.natAdd 64 y), if_neg (by show ¬ (64 + y.val < 64); omega)]
    show f _ = f _
    congr 1
  · intro y _
    rw [lanes_hi (Fin.castAdd 64 y), if_pos (show (Fin.castAdd 64 y : Fin (64 + 64)).val < 64 from y.isLt)]
    rfl

/-- The signed comparison of small words. -/
theorem sle_small (a b : ℕ) (ha : a < 65536) (hb : b < 65536) :
    IntOp.cmpi CmpIPredicate.sle (BitVec.ofNat 32 a) (BitVec.ofNat 32 b) = if a ≤ b then 1#1 else 0#1 := by
  have h : (BitVec.ofNat 32 a).sle (BitVec.ofNat 32 b) = decide (a ≤ b) := by
    rw [BitVec.sle_eq_decide, BitVec.toInt_eq_toNat_of_lt (by rw [BitVec.toNat_ofNat]; omega), BitVec.toInt_eq_toNat_of_lt (by rw [BitVec.toNat_ofNat]; omega),
      BitVec.toNat_ofNat, BitVec.toNat_ofNat, Nat.mod_eq_of_lt (by omega), Nat.mod_eq_of_lt (by omega)]
    simp
  unfold IntOp.cmpi
  simp only [h]
  by_cases h' : a ≤ b <;> simp [h']

/-- The causal mask of a grid point's block. -/
theorem p13 (Q K : ℕ) (hQ : Q < 32) (hK : K < 32) (r j : Fin 512) :
    k0_pay13 (F := Ideal) (BitVec.ofNat 32 Q) (BitVec.ofNat 32 K) (ix2 r j) = if 512 * K + j.val ≤ 512 * Q + r.val then 1#1 else 0#1 := by
  pointwise [k0_pay13]
  rw [show IntOp.addi (BitVec.ofNat 32 j.val) (Scalar.muli (BitVec.ofNat 32 K) 512#32) = BitVec.ofNat 32 (512 * K + j.val) from ?_,
    show IntOp.addi (BitVec.ofNat 32 r.val) (Scalar.muli (BitVec.ofNat 32 Q) 512#32) = BitVec.ofNat 32 (512 * Q + r.val) from ?_, sle_small _ _ (by omega) (by omega)]
  · show BitVec.ofNat 32 r.val + BitVec.ofNat 32 Q * 512#32 = _
    apply BitVec.eq_of_toNat_eq; simp only [BitVec.toNat_add, BitVec.toNat_mul, BitVec.toNat_ofNat]; omega
  · show BitVec.ofNat 32 j.val + BitVec.ofNat 32 K * 512#32 = _
    apply BitVec.eq_of_toNat_eq; simp only [BitVec.toNat_add, BitVec.toNat_mul, BitVec.toNat_ofNat]; omega

/-- The word of minus infinity. -/
theorem neg_inf : Ideal.ofBits FTy.f32 4286578688#32 = (⊥ : EReal) := by simp [Ideal.ofBits, Ideal.ieee]

section point
variable (Q K : ℕ) (hQ : Q < 32) (hK : K < 32) (q k v : Vec Ideal S512x128 .bf16)
include hQ hK

/-- The first map's masked scores. -/
theorem p14 (r j : Fin 512) : k0_pay14 (F := Ideal) (BitVec.ofNat 32 Q) (BitVec.ofNat 32 K) q k (ix2 r j) = bs Q K q k 0 r j := by
  pointwise [k0_pay14]
  rw [p13 Q K hQ hK, neg_inf]
  refine (congrArg (fun z : EReal => Scalar.select (if 512 * K + j.val ≤ 512 * Q + r.val then 1#1 else 0#1) z (⊥ : EReal)) (sum_lo fun x => (q (ix2 r x) : EReal) * (k (ix2 j x) : EReal))).trans ?_
  unfold bs dt
  split <;> rfl

/-- The second map's masked scores. -/
theorem p22 (r j : Fin 512) : k0_pay22 (F := Ideal) q k lane (k0_pay13 (F := Ideal) (BitVec.ofNat 32 Q) (BitVec.ofNat 32 K)) (ix2 r j) = bs Q K q k 1 r j := by
  pointwise [k0_pay22, lane]
  rw [p13 Q K hQ hK, neg_inf]
  refine (congrArg (fun z : EReal => Scalar.select (if 512 * K + j.val ≤ 512 * Q + r.val then 1#1 else 0#1) z (⊥ : EReal)) (sum_hi fun x => (q (ix2 r x) : EReal) * (k (ix2 j x) : EReal))).trans ?_
  unfold bs dt
  split <;> rfl

/-- The first map's new maximum. -/
theorem p16 (o : Vec Ideal S1x512x1 .f32) (r : Fin 512) (z : Fin 1) :
    k0_pay16 (F := Ideal) (BitVec.ofNat 32 Q) (BitVec.ofNat 32 K) q k o (ix2 r z) = max (o (ix3 0 r 0)) ((Finset.univ : Finset (Fin 512)).fold max ⊥ (fun x => bs Q K q k 0 r x)) := by
  pointwise [k0_pay16, k0_pay15]
  rw [neg_inf]
  simp only [p14 Q K hQ hK]

/-- The second map's block maximum. -/
theorem p24 (r : Fin 512) (z : Fin 1) :
    k0_pay24 (F := Ideal) q k lane (k0_pay13 (F := Ideal) (BitVec.ofNat 32 Q) (BitVec.ofNat 32 K)) (ix2 r z) = (Finset.univ : Finset (Fin 512)).fold max ⊥ (fun x => bs Q K q k 1 r x) := by
  pointwise [k0_pay24]
  rw [neg_inf]
  simp only [p22 Q K hQ hK]

end point

/-- The second map's new maximum, before its slot's shape. -/
theorem p1 (o b : FVec Ideal S512x1 .f32) (r : Fin 512) (z : Fin 1) : k0_pay1 o b (ix2 r z) = max (o (ix2 r z)) (b (ix2 r z)) := by
  pointwise [k0_pay1]

/-- The kept maximum without its slot axis. -/
theorem p23 (o : Vec Ideal S1x512x1 .f32) (r : Fin 512) (z : Fin 1) : k0_pay23 (F := Ideal) o (ix2 r z) = o (ix3 0 r 0) := by
  pointwise [k0_pay23]

/-- The first slot's row. -/
theorem ra1 (r : Fin 512) : r1a.idx (ix3 (0 : Fin 1) r (0 : Fin 1) : S1x512x1.Idx) = (ix3 (0 : Fin 2) r (0 : Fin 1) : S2x512x1.Idx) := by
  funext a; match a with
  | ⟨0, _⟩ => rfl
  | ⟨1, _⟩ => exact Fin.ext ((Rect.idx_unit_val _ _ _ _ _).trans (Nat.zero_add _))
  | ⟨2, _⟩ => rfl
/-- The second slot's row. -/
theorem rb1 (r : Fin 512) : r1b.idx (ix3 (0 : Fin 1) r (0 : Fin 1) : S1x512x1.Idx) = (ix3 (1 : Fin 2) r (0 : Fin 1) : S2x512x1.Idx) := by
  funext a; match a with
  | ⟨0, _⟩ => rfl
  | ⟨1, _⟩ => exact Fin.ext ((Rect.idx_unit_val _ _ _ _ _).trans (Nat.zero_add _))
  | ⟨2, _⟩ => rfl
/-- The first slot's row and lane. -/
theorem ra128 (r : Fin 512) (d : Fin 128) : r128a.idx (ix3 (0 : Fin 1) r d : S1x512x128.Idx) = (ix3 (0 : Fin 2) r d : S2x512x128.Idx) := by
  funext a; match a with
  | ⟨0, _⟩ => rfl
  | ⟨1, _⟩ => exact Fin.ext ((Rect.idx_unit_val _ _ _ _ _).trans (Nat.zero_add _))
  | ⟨2, _⟩ => exact Fin.ext ((Rect.idx_unit_val _ _ _ _ _).trans (Nat.zero_add _))
/-- The second slot's row and lane. -/
theorem rb128 (r : Fin 512) (d : Fin 128) : r128b.idx (ix3 (0 : Fin 1) r d : S1x512x128.Idx) = (ix3 (1 : Fin 2) r d : S2x512x128.Idx) := by
  funext a; match a with
  | ⟨0, _⟩ => rfl
  | ⟨1, _⟩ => exact Fin.ext ((Rect.idx_unit_val _ _ _ _ _).trans (Nat.zero_add _))
  | ⟨2, _⟩ => exact Fin.ext ((Rect.idx_unit_val _ _ _ _ _).trans (Nat.zero_add _))

/-- The scratches hold, for each map, row and lane, the running maximum, denominator and sum of the first `n` keys. -/
structure Inv (s : St Ideal) (t : Fin 2 → Fin 512 → ℕ → EReal) (w : Fin 128 → ℕ → ℝ) (n : ℕ) : Prop where
  m : ∀ μ r, s.m (ix3 μ r 0) = mx (t μ r) n
  l : ∀ μ r, s.l (ix3 μ r 0) = ((sv (t μ r) (fun _ => 1) n : ℝ) : EReal)
  a : ∀ μ r d, s.a (ix3 μ r d) = ((sv (t μ r) (w d) n : ℝ) : EReal)

/-- On reset scratches the invariant holds of no keys. -/
theorem inv_zero (s : St Ideal) (t : Fin 2 → Fin 512 → ℕ → EReal) (w : Fin 128 → ℕ → ℝ) : Inv (s.enter 0#32) t w 0 := by
  refine ⟨fun μ r => ?_, fun μ r => ?_, fun μ r d => ?_⟩
  · rw [mx_zero]
    show k0_pay10 (F := Ideal) (ix3 μ r 0) = _
    pointwise [k0_pay10]
    try exact neg_inf
  · rw [sv_zero]
    show k0_pay11 (F := Ideal) (ix3 μ r 0) = _
    pointwise [k0_pay11]
    exact EReal.coe_zero.symm
  · rw [sv_zero]
    show k0_pay12 (F := Ideal) (ix3 μ r d) = _
    pointwise [k0_pay12]
    exact EReal.coe_zero.symm

section slots
variable (t : ℕ → EReal) (w : Fin 128 → ℕ → ℝ) (Q K : ℕ) (hQ : Q < 32) (hK : K < 32)
  (q k v : Vec Ideal S512x128 .bf16) (n : ℕ) (r : Fin 512)
  (om ol : Vec Ideal S1x512x1 .f32) (oa : Vec Ideal S1x512x128 .f32)
  (hm : om (ix3 0 r 0) = mx t n) (hl : ol (ix3 0 r 0) = ((sv t (fun _ => 1) n : ℝ) : EReal))
  (ha : ∀ d, oa (ix3 0 r d) = ((sv t (w d) n : ℝ) : EReal))
  (hv : ∀ (j : Fin 512) d, v (ix2 j d) = ((w d (n + j.val) : ℝ) : EReal))
include hQ hK hm

section first
variable (ht : ∀ j : Fin 512, bs Q K q k 0 r j = t (n + j.val))
include ht

/-- The first map's new maximum of a row. -/
theorem mx0 (z : Fin 1) : k0_pay16 (F := Ideal) (BitVec.ofNat 32 Q) (BitVec.ofNat 32 K) q k om (ix2 r z) = mx t (n + 512) := by
  rw [p16 Q K hQ hK, hm]
  simp only [ht]
  exact step_mx _ _ _

/-- The first map's weights of a row. -/
theorem pr0 (j : Fin 512) : k0_pay17 (F := Ideal) (BitVec.ofNat 32 Q) (BitVec.ofNat 32 K) q k om (ix2 r j) = Ideal.exp (t (n + j.val) - mx t (n + 512)) := by
  pointwise [k0_pay17]
  rw [mx0 t Q K hQ hK q k n r om hm ht, p14 Q K hQ hK, ht]

/-- The first map's rescaling of a row. -/
theorem al0 (z : Fin 1) : k0_pay18 (F := Ideal) (BitVec.ofNat 32 Q) (BitVec.ofNat 32 K) q k om (ix2 r z) = Ideal.exp (mx t n - mx t (n + 512)) := by
  pointwise [k0_pay18, k0_pay15]
  rw [mx0 t Q K hQ hK q k n r om hm ht, hm]

include hl in
/-- The first map's new denominator of a row. -/
theorem den0 : k0_pay19 (F := Ideal) (k0_pay17 (BitVec.ofNat 32 Q) (BitVec.ofNat 32 K) q k om) (k0_pay18 (BitVec.ofNat 32 Q) (BitVec.ofNat 32 K) q k om) ol (ix3 0 r 0)
    = ((sv t (fun _ => 1) (n + 512) : ℝ) : EReal) := by
  pointwise [k0_pay19]
  rw [al0 t Q K hQ hK q k n r om hm ht, hl]
  simp only [pr0 t Q K hQ hK q k n r om hm ht]
  exact step_sm _ _ _

include ha hv in
/-- The first map's new sum of a row. -/
theorem sum0 (d : Fin 128) : k0_pay20 (F := Ideal) v (k0_pay17 (BitVec.ofNat 32 Q) (BitVec.ofNat 32 K) q k om) (k0_pay18 (BitVec.ofNat 32 Q) (BitVec.ofNat 32 K) q k om) oa (ix3 0 r d)
    = ((sv t (w d) (n + 512) : ℝ) : EReal) := by
  pointwise [k0_pay20]
  rw [al0 t Q K hQ hK q k n r om hm ht, ha]
  simp only [pr0 t Q K hQ hK q k n r om hm ht, hv]
  exact step_sv _ _ _ _

end first

section second
variable (ht : ∀ j : Fin 512, bs Q K q k 1 r j = t (n + j.val))
include ht

/-- The second map's new maximum of a row. -/
theorem mx1 (z : Fin 1) : k0_pay1 (F := Ideal) (k0_pay23 om) (k0_pay24 q k lane (k0_pay13 (F := Ideal) (BitVec.ofNat 32 Q) (BitVec.ofNat 32 K))) (ix2 r z) = mx t (n + 512) := by
  rw [p1, p23, p24 Q K hQ hK, hm]
  simp only [ht]
  exact step_mx _ _ _

/-- The second map's weights of a row. -/
theorem pr1 (j : Fin 512) : k0_pay2 (F := Ideal) (k0_pay22 q k lane (k0_pay13 (F := Ideal) (BitVec.ofNat 32 Q) (BitVec.ofNat 32 K))) (k0_pay23 om)
    (k0_pay24 q k lane (k0_pay13 (F := Ideal) (BitVec.ofNat 32 Q) (BitVec.ofNat 32 K))) (ix2 r j) = Ideal.exp (t (n + j.val) - mx t (n + 512)) := by
  pointwise [k0_pay2]
  rw [mx1 t Q K hQ hK q k n r om hm ht, p22 Q K hQ hK, ht]

/-- The second map's rescaling of a row. -/
theorem al1 (z : Fin 1) : k0_pay3 (F := Ideal) (k0_pay23 om) (k0_pay24 q k lane (k0_pay13 (F := Ideal) (BitVec.ofNat 32 Q) (BitVec.ofNat 32 K))) (ix2 r z)
    = Ideal.exp (mx t n - mx t (n + 512)) := by
  pointwise [k0_pay3]
  rw [mx1 t Q K hQ hK q k n r om hm ht, p23, hm]

include hl in
/-- The second map's new denominator of a row. -/
theorem den1 : k0_pay4 (F := Ideal) (k0_pay22 q k lane (k0_pay13 (F := Ideal) (BitVec.ofNat 32 Q) (BitVec.ofNat 32 K))) (k0_pay23 om)
    (k0_pay24 q k lane (k0_pay13 (F := Ideal) (BitVec.ofNat 32 Q) (BitVec.ofNat 32 K))) ol (ix3 0 r 0) = ((sv t (fun _ => 1) (n + 512) : ℝ) : EReal) := by
  pointwise [k0_pay4]
  rw [al1 t Q K hQ hK q k n r om hm ht, hl]
  simp only [pr1 t Q K hQ hK q k n r om hm ht]
  exact step_sm _ _ _

include ha hv in
/-- The second map's new sum of a row. -/
theorem sum1 (d : Fin 128) : k0_pay5 (F := Ideal) v (k0_pay22 q k lane (k0_pay13 (F := Ideal) (BitVec.ofNat 32 Q) (BitVec.ofNat 32 K))) (k0_pay23 om)
    (k0_pay24 q k lane (k0_pay13 (F := Ideal) (BitVec.ofNat 32 Q) (BitVec.ofNat 32 K))) oa (ix3 0 r d) = ((sv t (w d) (n + 512) : ℝ) : EReal) := by
  pointwise [k0_pay5]
  rw [al1 t Q K hQ hK q k n r om hm ht, ha]
  simp only [pr1 t Q K hQ hK q k n r om hm ht, hv]
  exact step_sv _ _ _ _

end second
end slots

/-- Adding a leading axis to the sums. -/
theorem p21 (o : FVec Ideal S512x1 .f32) (r : Fin 512) : k0_pay21 o (ix3 0 r 0) = o (ix2 r 0) := by
  pointwise [k0_pay21]
/-- The new sums with a leading axis. -/
theorem p6 (o b : FVec Ideal S512x1 .f32) (r : Fin 512) : k0_pay6 o b (ix3 0 r 0) = k0_pay1 o b (ix2 r 0) := by
  pointwise [k0_pay6]

/-- One grid point's step takes the invariant past its key block. -/
theorem inv_step (s : St Ideal) (t : Fin 2 → Fin 512 → ℕ → EReal) (w : Fin 128 → ℕ → ℝ) (Q K : ℕ) (hQ : Q < 32) (hK : K < 32)
    (q k v : Vec Ideal S512x128 .bf16) (n : ℕ) (h : Inv s t w n)
    (ht : ∀ μ r (j : Fin 512), bs Q K q k μ r j = t μ r (n + j.val))
    (hv : ∀ (j : Fin 512) d, v (ix2 j d) = ((w d (n + j.val) : ℝ) : EReal)) :
    Inv (s.step (BitVec.ofNat 32 Q) (BitVec.ofNat 32 K) q k v) t w (n + 512) := by
  have m0 : ∀ r, s.m (r1a.idx (ix3 0 r 0)) = mx (t 0 r) n := fun r => by rw [ra1]; exact h.m 0 r
  have m1 : ∀ r, s.m (r1b.idx (ix3 0 r 0)) = mx (t 1 r) n := fun r => by rw [rb1]; exact h.m 1 r
  have l0 : ∀ r, s.l (r1a.idx (ix3 0 r 0)) = ((sv (t 0 r) (fun _ => 1) n : ℝ) : EReal) := fun r => by rw [ra1]; exact h.l 0 r
  have l1 : ∀ r, s.l (r1b.idx (ix3 0 r 0)) = ((sv (t 1 r) (fun _ => 1) n : ℝ) : EReal) := fun r => by rw [rb1]; exact h.l 1 r
  have a0 : ∀ r d, s.a (r128a.idx (ix3 0 r d)) = ((sv (t 0 r) (w d) n : ℝ) : EReal) := fun r d => by rw [ra128]; exact h.a 0 r d
  have a1 : ∀ r d, s.a (r128b.idx (ix3 0 r d)) = ((sv (t 1 r) (w d) n : ℝ) : EReal) := fun r d => by rw [rb128]; exact h.a 1 r d
  have two : ∀ μ : Fin 2, μ = 0 ∨ μ = 1 := by decide
  refine ⟨fun μ r => ?_, fun μ r => ?_, fun μ r d => ?_⟩
  · rcases two μ with rfl | rfl
    · exact (p21 _ r).trans (mx0 (t 0 r) Q K hQ hK q k n r (fun y => s.m (r1a.idx y)) (m0 r) (ht 0 r) 0)
    · exact (p6 _ _ r).trans (mx1 (t 1 r) Q K hQ hK q k n r (fun y => s.m (r1b.idx y)) (m1 r) (ht 1 r) 0)
  · rcases two μ with rfl | rfl
    · exact den0 (t 0 r) Q K hQ hK q k n r (fun y => s.m (r1a.idx y)) (fun y => s.l (r1a.idx y)) (m0 r) (l0 r) (ht 0 r)
    · exact den1 (t 1 r) Q K hQ hK q k n r (fun y => s.m (r1b.idx y)) (fun y => s.l (r1b.idx y)) (m1 r) (l1 r) (ht 1 r)
  · rcases two μ with rfl | rfl
    · exact sum0 (t 0 r) w Q K hQ hK q k v n r (fun y => s.m (r1a.idx y)) (fun y => s.a (r128a.idx y)) (m0 r) (a0 r) hv (ht 0 r) d
    · exact sum1 (t 1 r) w Q K hQ hK q k v n r (fun y => s.m (r1b.idx y)) (fun y => s.a (r128b.idx y)) (m1 r) (a1 r) hv (ht 1 r) d

end Cert.KernelIdeal.Att

end
-- ==== Proof.HostI.lean ====
/- What the attention kernel's grid finds: its blocks as the arguments' entries, the mixing table and the gains. -/
module

public import proofs.«01_k».proof.Proof.GridI
public import proofs.«01_k».proof.Proof.PayI
public import Idealize.ShloMosaic.Lib.Pointwise

@[expose] public section

set_option maxRecDepth 16384

noncomputable section

namespace Cert.KernelIdeal.Att

open Idealize.ShloMosaic Idealize.ShloMosaic.TcCoe
open Cert.KernelIdeal Cert.KernelIdeal.Gen

/-- Updates applied one after another, read at one place: only the updates of that place count. -/
theorem fold_at {α ι κ : Type} [DecidableEq ι] (e : κ → ι) (u : κ → α) (i : ι) (l : List κ) (x : ι → α) :
    l.foldl (fun r n => fun i' => if i' = e n then u n else r i') x i = l.foldl (fun v n => if i = e n then u n else v) (x i) := by
  induction l generalizing x with
  | nil => rfl
  | cons n l ih => exact (ih _).trans rfl

/-- A place no update writes keeps its value. -/
theorem fold_miss {α ι κ : Type} [DecidableEq ι] (e : κ → ι) (u : κ → α) (i : ι) (l : List κ) (v : α) (h : ∀ n, i ≠ e n) :
    l.foldl (fun v n => if i = e n then u n else v) v = v := by
  induction l generalizing v with
  | nil => rfl
  | cons n l ih => rw [List.foldl_cons, if_neg (h n), ih]

/-- A place one update writes holds it. -/
theorem fold_hit {α ι κ : Type} [DecidableEq ι] (e : κ → ι) (he : Function.Injective e) (u : κ → α) (n : κ) (l : List κ) (v : α)
    (hn : n ∈ l ∨ v = u n) : l.foldl (fun v n' => if e n = e n' then u n' else v) v = u n := by
  induction l generalizing v with
  | nil => exact hn.elim (fun h => nomatch h) id
  | cons n' l ih =>
    rw [List.foldl_cons]
    by_cases h : e n = e n'
    · rw [if_pos h]; exact ih _ (.inr (by rw [he h]))
    · rw [if_neg h]
      exact ih _ (hn.imp (fun hm => (List.mem_cons.mp hm).resolve_left fun e => h (e ▸ rfl)) id)

/-- Where the table's update lands. -/
theorem scat_idx : ∀ (i : Fin 4) (k : Fin 64), scatter_S8x128_S2_S4x64_01_n_01_0.resultIdx? (ix2 i k : S4x64.Idx) (fun _ => 0#32 : IVec S2 32)
    = some (ix2 ⟨i.val, by omega⟩ ⟨k.val, by omega⟩ : S8x128.Idx) := by decide +kernel

/-- Where the table's update lands, by the update's own index. -/
def spot (j : S4x64.Idx) : S8x128.Idx := ix2 ⟨(j 0).val, Nat.lt_trans (j 0).isLt (by decide)⟩ ⟨(j 1).val, Nat.lt_trans (j 1).isLt (by decide)⟩

/-- Two entries of the four rows have two places. -/
theorem spot_inj : Function.Injective spot := fun j j' h => by
  have h0 := congrArg (fun f : S8x128.Idx => (f 0).val) h
  have h1 := congrArg (fun f : S8x128.Idx => (f 1).val) h
  funext a
  match a with
  | ⟨0, _⟩ => exact Fin.ext h0
  | ⟨1, _⟩ => exact Fin.ext h1

/-- The place of an entry in the table. -/
theorem scat_spot (j : S4x64.Idx) : scatter_S8x128_S2_S4x64_01_n_01_0.resultIdx? j (fun _ => 0#32 : IVec S2 32) = some (spot j) := by
  have := scat_idx (j 0) (j 1)
  rw [show (ix2 (j 0) (j 1) : S4x64.Idx) = j from (eq_ix2 j).symm] at this
  exact this

/-- The table: the update's rows in the first lanes of the first rows. -/
abbrev table (x : FVec Ideal S8x128 .f32) (u : FVec Ideal S4x64 .f32) : FVec Ideal S8x128 .f32 :=
  Host.scatter scatter_S8x128_S2_S4x64_01_n_01_0 (fun _ b => b) x (fun _ => 0#32 : IVec S2 32) u

/-- The table as a fold over the entries. -/
theorem table_fold (x : FVec Ideal S8x128 .f32) (u : FVec Ideal S4x64 .f32) (i : S8x128.Idx) :
    table x u i = (List.finRange S4x64.numel).foldl (fun v n => if i = spot (S4x64.rowMajor.symm n) then u (S4x64.rowMajor.symm n) else v) (x i) := by
  refine Eq.trans ?_ (fold_at (fun n => spot (S4x64.rowMajor.symm n)) (fun n => u (S4x64.rowMajor.symm n)) i _ x)
  unfold table Host.scatter
  simp only [scat_spot]

/-- A lane of the table inside the update. -/
theorem table_hit (x : FVec Ideal S8x128 .f32) (u : FVec Ideal S4x64 .f32) (j : S4x64.Idx) : table x u (spot j) = u j := by
  rw [table_fold]
  have := fold_hit (fun n => spot (S4x64.rowMajor.symm n)) (spot_inj.comp S4x64.rowMajor.symm.injective) (fun n => u (S4x64.rowMajor.symm n)) (S4x64.rowMajor j)
    (List.finRange S4x64.numel) (x (spot j)) (.inl (List.mem_finRange _))
  simp only [Equiv.symm_apply_apply] at this
  exact this

/-- A lane of the table outside the update. -/
theorem table_miss (x : FVec Ideal S8x128 .f32) (u : FVec Ideal S4x64 .f32) (i : S8x128.Idx) (h : 64 ≤ (i 1).val) : table x u i = x i := by
  rw [table_fold]
  refine fold_miss (fun n => spot (S4x64.rowMajor.symm n)) (fun n => u (S4x64.rowMajor.symm n)) i _ _ fun n e => ?_
  have h1 := congrArg (fun f : S8x128.Idx => (f 1).val) e
  have h2 : ((S4x64.rowMajor.symm n) 1).val < 64 := ((S4x64.rowMajor.symm n) 1).isLt
  have h3 : (i 1).val = ((S4x64.rowMajor.symm n) 1).val := h1
  omega

/-- Four rows stacked. -/
def rows4 (a b c d : FVec Ideal S64 .f32) : FVec Ideal S4x64 .f32 :=
  concatenate S4x64 0 [⟨S1x64, broadcastInDim S1x64 ![1] bcast_S64_S1x64_1 a⟩, ⟨S1x64, broadcastInDim S1x64 ![1] bcast_S64_S1x64_1 b⟩, ⟨S1x64, broadcastInDim S1x64 ![1] bcast_S64_S1x64_1 c⟩, ⟨S1x64, broadcastInDim S1x64 ![1] bcast_S64_S1x64_1 d⟩] concatenates_S1x64_S1x64_S1x64_S1x64_S4x64_d0

/-- The first row. -/
theorem rows4_0 (a b c d : FVec Ideal S64 .f32) (k : Fin 64) : rows4 a b c d (ix2 0 k) = a (ix1 k) := by pointwise [rows4]
/-- The second row. -/
theorem rows4_1 (a b c d : FVec Ideal S64 .f32) (k : Fin 64) : rows4 a b c d (ix2 1 k) = b (ix1 k) := by pointwise [rows4]
/-- The third row. -/
theorem rows4_2 (a b c d : FVec Ideal S64 .f32) (k : Fin 64) : rows4 a b c d (ix2 2 k) = c (ix1 k) := by pointwise [rows4]
/-- The fourth row. -/
theorem rows4_3 (a b c d : FVec Ideal S64 .f32) (k : Fin 64) : rows4 a b c d (ix2 3 k) = d (ix1 k) := by pointwise [rows4]

/-- A sum over the table's lanes of two of its rows' products is the sum over the update's. -/
theorem table_dot (x : FVec Ideal S8x128 .f32) (hx : ∀ i, x i = (0 : EReal)) (u : FVec Ideal S4x64 .f32) (i j : Fin 4) :
    ∑ l : Fin 128, (table x u (ix2 (⟨i.val, by omega⟩ : Fin 8) l) : EReal) * (table x u (ix2 (⟨j.val, by omega⟩ : Fin 8) l) : EReal)
      = ∑ k : Fin 64, (u (ix2 i k) : EReal) * (u (ix2 j k) : EReal) := by
  rw [show (∑ l : Fin 128, (table x u (ix2 (⟨i.val, by omega⟩ : Fin 8) l) : EReal) * (table x u (ix2 (⟨j.val, by omega⟩ : Fin 8) l) : EReal))
    = ∑ l : Fin (64 + 64), (table x u (ix2 (⟨i.val, by omega⟩ : Fin 8) l) : EReal) * (table x u (ix2 (⟨j.val, by omega⟩ : Fin 8) l) : EReal) from rfl, Fin.sum_univ_add]
  rw [Finset.sum_eq_zero (s := Finset.univ) (f := fun l : Fin 64 => (table x u (ix2 (⟨i.val, by omega⟩ : Fin 8) (Fin.natAdd 64 l)) : EReal) * (table x u (ix2 (⟨j.val, by omega⟩ : Fin 8) (Fin.natAdd 64 l)) : EReal)), add_zero]
  · refine Finset.sum_congr rfl fun k _ => ?_
    have e : ∀ i : Fin 4, table x u (ix2 (⟨i.val, by omega⟩ : Fin 8) (Fin.castAdd 64 k)) = u (ix2 i k) := fun i => table_hit x u (ix2 i k)
    rw [e, e]
  · intro l _
    have e : table x u (ix2 (⟨i.val, by omega⟩ : Fin 8) (Fin.natAdd 64 l)) = (0 : EReal) := (table_miss x u _ (by show 64 ≤ 64 + l.val; omega)).trans (hx _)
    rw [e, zero_mul]

variable (m : (ℓ : Loc nD τ sig) → Buf (Elt Ideal) ℓ)

/-- The mixing table when the region is entered. -/
theorem V9 (c : Dev nD) : V m c main_v9 = Host.scatter scatter_S8x128_S2_S4x64_01_n_01_0 (fun _ b => b)
    (broadcastInDim S8x128 ![] bcast_S_S8x128 (constant (F := Ideal) S_ .f32 0x00000000#32))
    (concatenate S2 0 [⟨S1, broadcastInDim S1 ![] bcast_S_S1 (constantI S_ 32 0#32)⟩, ⟨S1, broadcastInDim S1 ![] bcast_S_S1 (constantI S_ 32 0#32)⟩] concatenates_S1_S1_S2_d0)
    (rows4 (m ((c : Thread nD τ).loc main_arg3)) (m ((c : Thread nD τ).loc main_arg4)) (m ((c : Thread nD τ).loc main_arg5)) (m ((c : Thread nD τ).loc main_arg6))) := by
  unfold V
  after_results
  rfl

/-- The gains when the region is entered. -/
theorem V10 (c : Dev nD) : V m c main_v10 = shapeCast S8x1x128 (m ((c : Thread nD τ).loc main_arg7)) shapeCasts_S8x128_S8x1x128 := by
  unfold V
  after_results
  rfl

/-- A gain after the reshape. -/
theorem V10_at (X : FVec Ideal S8x128 .f32) (h : Fin 8) (d : Fin 128) : shapeCast S8x1x128 X shapeCasts_S8x128_S8x1x128 (ix3 h 0 d) = X (ix2 h d) := by
  pointwise

/-- The rows are put at the origin. -/
theorem start_at (i : S2.Idx) : concatenate S2 0 [⟨S1, broadcastInDim S1 ![] bcast_S_S1 (constantI S_ 32 0#32)⟩, ⟨S1, broadcastInDim S1 ![] bcast_S_S1 (constantI S_ 32 0#32)⟩] concatenates_S1_S1_S2_d0 i = 0#32 := by
  pointwise
  split <;> rfl

/-- The first window's block is the table. -/
theorem x0_at (c : Dev nD) (t : Fin (cfgA (F := Ideal)).N) (r : Fin 8) (l : Fin 128) :
    x0 m c t (ix2 r l) = table (fun _ => (0 : EReal)) (rows4 (m ((c : Thread nD τ).loc main_arg3)) (m ((c : Thread nD τ).loc main_arg4)) (m ((c : Thread nD τ).loc main_arg5)) (m ((c : Thread nD τ).loc main_arg6))) (ix2 r l) := by
  have e : x0 m c t (ix2 r l) = V m c main_v9 (ix2 r l : S8x128.Idx) := by
    unfold x0 iblk
    show V m c main_v9 (((cfgA (F := Ideal)).win 0).rect t |>.emb (ix2 r l)) = V m c main_v9 (ix2 r l : S8x128.Idx)
    refine congrArg (V m c main_v9) (funext fun a => Fin.ext ?_)
    refine (Pipeline.Window.rect_emb_val_of_index_zero _ t a ?_ (ix2 r l)).trans ?_
    · match a with
      | ⟨0, _⟩ => rfl
      | ⟨1, _⟩ => rfl
    · rfl
  rw [e, V9]
  unfold table
  congr 1
  · funext i; exact Ideal.ofBits_zero_f32
  · funext i; exact start_at i

/-- The query block's entries. -/
theorem x1_at (c : Dev nD) (t : Fin (cfgA (F := Ideal)).N) (r : Fin 512) (l : Fin 128) (i : S32768x1024.Idx)
    (h0 : (i 0).val = ((grid0.coords t 0).val * 32 + (lit0 (stpt (F := Ideal) t)).toNat) * 512 + r.val) (h1 : (i 1).val = (grid0.coords t 1).val * 128 + l.val) :
    x1 m c t (ix2 r l) = m ((c : Thread nD τ).loc main_arg0) i := by
  have e : x1 m c t (ix2 r l) = V m c main_arg0 i := by
    unfold x1 iblk
    show V m c main_arg0 (((cfgA (F := Ideal)).win 1).rect t |>.emb (ix2 r l)) = V m c main_arg0 i
    refine congrArg (V m c main_arg0) (funext fun a => Fin.ext ?_)
    refine (Pipeline.Window.rect_emb_val _ t (ix2 r l) a).trans ?_
    have e1 : ((cfgA (F := Ideal)).win 1).index t = ![(grid0.coords t 0).val * 32 + (lit0 (stp (grid0.coords t))).toNat, (grid0.coords t 1).val] := map1 (F := Ideal) (grid0.coords t)
    rw [e1]
    match a with
    | ⟨0, _⟩ => exact h0.symm
    | ⟨1, _⟩ => exact h1.symm
  rw [e, V_keep m c main_arg0 (by decide)]

/-- The key block's entries. -/
theorem x2_at (c : Dev nD) (t : Fin (cfgA (F := Ideal)).N) (r : Fin 512) (l : Fin 128) (i : S32768x1024.Idx)
    (h0 : (i 0).val = ((grid0.coords t 0).val * 32 + (lit1 (stpt (F := Ideal) t)).toNat) * 512 + r.val) (h1 : (i 1).val = (grid0.coords t 1).val * 128 + l.val) :
    x2 m c t (ix2 r l) = m ((c : Thread nD τ).loc main_arg1) i := by
  have e : x2 m c t (ix2 r l) = V m c main_arg1 i := by
    unfold x2 iblk
    show V m c main_arg1 (((cfgA (F := Ideal)).win 2).rect t |>.emb (ix2 r l)) = V m c main_arg1 i
    refine congrArg (V m c main_arg1) (funext fun a => Fin.ext ?_)
    refine (Pipeline.Window.rect_emb_val _ t (ix2 r l) a).trans ?_
    have e1 : ((cfgA (F := Ideal)).win 2).index t = ![(grid0.coords t 0).val * 32 + (lit1 (stp (grid0.coords t))).toNat, (grid0.coords t 1).val] := map2 (F := Ideal) (grid0.coords t)
    rw [e1]
    match a with
    | ⟨0, _⟩ => exact h0.symm
    | ⟨1, _⟩ => exact h1.symm
  rw [e, V_keep m c main_arg1 (by decide)]

/-- The value block's entries. -/
theorem x3_at (c : Dev nD) (t : Fin (cfgA (F := Ideal)).N) (r : Fin 512) (l : Fin 128) (i : S32768x1024.Idx)
    (h0 : (i 0).val = ((grid0.coords t 0).val * 32 + (lit1 (stpt (F := Ideal) t)).toNat) * 512 + r.val) (h1 : (i 1).val = (grid0.coords t 1).val * 128 + l.val) :
    x3 m c t (ix2 r l) = m ((c : Thread nD τ).loc main_arg2) i := by
  have e : x3 m c t (ix2 r l) = V m c main_arg2 i := by
    unfold x3 iblk
    show V m c main_arg2 (((cfgA (F := Ideal)).win 3).rect t |>.emb (ix2 r l)) = V m c main_arg2 i
    refine congrArg (V m c main_arg2) (funext fun a => Fin.ext ?_)
    refine (Pipeline.Window.rect_emb_val _ t (ix2 r l) a).trans ?_
    have e1 : ((cfgA (F := Ideal)).win 3).index t = ![(grid0.coords t 0).val * 32 + (lit1 (stp (grid0.coords t))).toNat, (grid0.coords t 1).val] := map3 (F := Ideal) (grid0.coords t)
    rw [e1]
    match a with
    | ⟨0, _⟩ => exact h0.symm
    | ⟨1, _⟩ => exact h1.symm
  rw [e, V_keep m c main_arg2 (by decide)]

/-- The gain block's entries. -/
theorem x4_at (c : Dev nD) (t : Fin (cfgA (F := Ideal)).N) (l : Fin 128) :
    x4 m c t (ix3 0 0 l) = m ((c : Thread nD τ).loc main_arg7) (ix2 (⟨(grid0.coords t 1).val, (grid0.coords t 1).isLt⟩ : Fin 8) l : S8x128.Idx) := by
  have e : x4 m c t (ix3 0 0 l) = V m c main_v10 (ix3 (⟨(grid0.coords t 1).val, (grid0.coords t 1).isLt⟩ : Fin 8) 0 l : S8x1x128.Idx) := by
    unfold x4 iblk
    show V m c main_v10 (((cfgA (F := Ideal)).win 4).rect t |>.emb (ix3 0 0 l)) = V m c main_v10 (ix3 (⟨(grid0.coords t 1).val, (grid0.coords t 1).isLt⟩ : Fin 8) 0 l : S8x1x128.Idx)
    refine congrArg (V m c main_v10) (funext fun a => Fin.ext ?_)
    refine (Pipeline.Window.rect_emb_val _ t (ix3 0 0 l) a).trans ?_
    match a with
    | ⟨0, _⟩ => show (BitVec.ofNat 32 (grid0.coords t 1).val).toNat * 1 + 0 = (grid0.coords t 1).val; rw [head_word]; omega
    | ⟨1, _⟩ => rfl
    | ⟨2, _⟩ => exact Nat.zero_add _
  rw [e, V10]
  exact V10_at _ _ _

end Cert.KernelIdeal.Att

end
-- ==== Proof.Spec.lean ====
/- Differential attention of one head over the extended reals, from the whole arrays: the scores, the two maps' quotients,
   their difference normalized; and the same with the maps' weights mixed before the values are summed. -/
module

public import proofs.«01_k».proof.Proof.Soft

@[expose] public section

noncomputable section

namespace Cert.Att

open Idealize.ShloMosaic
open scoped BigOperators

/-- An array of the layer's size at two numbers, zero outside. -/
def at2 (A : Fin 32768 → Fin 1024 → EReal) (r c : ℕ) : EReal := if h : r < 32768 ∧ c < 1024 then A ⟨r, h.1⟩ ⟨c, h.2⟩ else 0

/-- An entry read by numbers in range. -/
theorem at2_of (A : Fin 32768 → Fin 1024 → EReal) (r c : ℕ) (hr : r < 32768) (hc : c < 1024) : at2 A r c = A ⟨r, hr⟩ ⟨c, hc⟩ := dif_pos ⟨hr, hc⟩

/-- The score of key `j` against query `i` in batch `b`, head `h`, map `μ`: minus infinity past the diagonal. -/
def sc (q k : Fin 32768 → Fin 1024 → EReal) (b h μ i j : ℕ) : EReal :=
  if j ≤ i then ∑ x : Fin 64, at2 q (16384 * b + i) (128 * h + (64 * μ + x.val)) * at2 k (16384 * b + j) (128 * h + (64 * μ + x.val)) else ⊥

/-- The value of key `j` in batch `b`, head `h`, lane `d`, as a real. -/
def vl (v : Fin 32768 → Fin 1024 → EReal) (b h d j : ℕ) : ℝ := (at2 v (16384 * b + j) (128 * h + d)).toReal

/-- The small constant under the root. -/
def eps : ℝ := (Ideal.ofBits FTy.f32 0x358637BD#32 : EReal).toReal

/-- The word of the constant under the root is that real. -/
theorem eps_eq : (Ideal.ofBits FTy.f32 0x358637BD#32 : EReal) = ((eps : ℝ) : EReal) := by
  have : ∃ r : ℝ, (Ideal.ofBits FTy.f32 0x358637BD#32 : EReal) = ((r : ℝ) : EReal) := by
    simp [Ideal.ofBits, Ideal.ieee, -EReal.coe_mul]
  obtain ⟨r, hr⟩ := this
  unfold eps
  rw [hr, EReal.toReal_coe]

/-- The word of 128. -/
theorem w128 : (Ideal.ofBits FTy.f32 0x43000000#32 : EReal) = ((128 : ℝ) : EReal) := by
  simp [Ideal.ofBits, Ideal.ieee, -EReal.coe_mul]; norm_num

/-- The weight of the second map. -/
def lam (a b c d : Fin 64 → EReal) : EReal :=
  Ideal.exp (∑ x, a x * b x) - Ideal.exp (∑ x, c x * d x) + Ideal.ofBits FTy.f32 0x3EB60549#32

section row
variable (q k v : Fin 32768 → Fin 1024 → EReal) (l : EReal) (b h i : ℕ)

/-- A row of the two maps' quotients' difference, over `n` keys. -/
def diff (n : ℕ) (d : Fin 128) : EReal :=
  Ideal.div ((sv (sc q k b h 0 i) (vl v b h d.val) n : ℝ) : EReal) ((sv (sc q k b h 0 i) (fun _ => 1) n : ℝ) : EReal)
    - l * Ideal.div ((sv (sc q k b h 1 i) (vl v b h d.val) n : ℝ) : EReal) ((sv (sc q k b h 1 i) (fun _ => 1) n : ℝ) : EReal)

/-- Keys past the diagonal's block change nothing. -/
theorem diff_tail (n : ℕ) (hn : i < n) (hN : n ≤ 16384) (d : Fin 128) : diff q k v l b h i n d = diff q k v l b h i 16384 d := by
  obtain ⟨B, hB⟩ := Nat.exists_eq_add_of_le hN
  have hb : ∀ μ j, n ≤ j → sc q k b h μ i j = ⊥ := fun μ j hj => if_neg (by omega)
  unfold diff
  rw [hB, sv_tail _ _ n B (hb 0), sv_tail _ _ n B (hb 0), sv_tail _ _ n B (hb 1), sv_tail _ _ n B (hb 1)]

/-- The result: the row normalized, scaled by the gain and the constant. -/
def res (g : Fin 128 → EReal) (d : Fin 128) : EReal :=
  rms (diff q k v l b h i 16384) 128 eps d * g d * Ideal.ofBits FTy.f32 0x3F24FD5C#32

/-- One map's probability of a key among `n`: its exponential below the row's maximum over the sum of all. -/
def prob (t : ℕ → EReal) (n : ℕ) (j : Fin n) : EReal :=
  Ideal.div (Ideal.exp (t j.val - mx t n)) (∑ j' : Fin n, Ideal.exp (t j'.val - mx t n))

/-- A map's probability as a quotient of reals. -/
theorem prob_eq (t : ℕ → EReal) (n : ℕ) (j : Fin n) :
    prob t n j = Ideal.div ((wt (t j.val) (mx t n) : ℝ) : EReal) ((∑ j' : Fin n, wt (t j'.val) (mx t n) : ℝ) : EReal) := by
  unfold prob
  rw [exp_sub _ _ (le_mx t j.isLt), ← coe_sum]
  refine congrArg _ ?_
  exact Finset.sum_congr rfl fun j' _ => exp_sub _ _ (le_mx t j'.isLt)

/-- Mixing the maps before the values are summed gives the same row after the normalization, where the values and the
    second map's weight are finite. -/
theorem rms_mixed (hv : ∀ r c, v r c ≠ ⊥ ∧ v r c ≠ ⊤) (hl : l ≠ ⊥ ∧ l ≠ ⊤) (hb : b < 2) (hh : h < 8) (n : ℕ) (hn : n ≤ 16384) (d : Fin 128) :
    rms (fun d => ∑ j : Fin n, at2 v (16384 * b + j.val) (128 * h + d.val) * (prob (sc q k b h 0 i) n j - l * prob (sc q k b h 1 i) n j)) 128 eps d
      = rms (diff q k v l b h i n) 128 eps d := by
  have hl' : l = ((l.toReal : ℝ) : EReal) := (EReal.coe_toReal hl.2 hl.1).symm
  have hv' : ∀ (j : Fin n) (d : Fin 128), at2 v (16384 * b + j.val) (128 * h + d.val) = ((vl v b h d.val j.val : ℝ) : EReal) := fun j d => by
    unfold vl
    rw [at2_of v _ _ (by omega) (by omega), EReal.coe_toReal (hv _ _).2 (hv _ _).1]
  have key := rms_maps (fun j : Fin n => wt (sc q k b h 0 i j.val) (mx (sc q k b h 0 i) n)) (fun j : Fin n => wt (sc q k b h 1 i j.val) (mx (sc q k b h 1 i) n))
    (fun j => wt_nonneg _ _) (fun j => wt_nonneg _ _) l.toReal (fun j d => vl v b h d.val j.val) 128 eps (by norm_num) d
  rw [← hl'] at key
  simp only [hv', prob_eq]
  refine key.trans ?_
  refine congrArg (fun f => rms f 128 eps d) (funext fun d => ?_)
  unfold diff sv
  simp only [Finset.sum_range, mul_one]

end row

end Cert.Att

end
-- ==== Proof.FinI.lean ====
/- The attention kernel's grid over the extended reals: what the scratches hold after each point, and the result array. -/
module

public import proofs.«01_k».proof.Proof.HostI
public import proofs.«01_k».proof.Proof.Spec

@[expose] public section

set_option maxRecDepth 16384

noncomputable section

namespace Cert.KernelIdeal.Att

open Idealize.ShloMosaic Idealize.ShloMosaic.TcCoe
open Cert.KernelIdeal Cert.KernelIdeal.Gen
open Cert.Att

/-- Off a row's first column the point before is of the same row, one column back. -/
theorem word_prev : ∀ s : Fin 528, lit1 s ≠ 0#32 → ∃ h : s.val - 1 < 528, s.val ≠ 0 ∧ lit0 ⟨s.val - 1, h⟩ = lit0 s ∧ (lit1 ⟨s.val - 1, h⟩).toNat + 1 = (lit1 s).toNat := by
  decide +kernel

/-- Each row has its diagonal step. -/
theorem word_diag : ∀ q : Fin 32, ∃ h : q.val * (q.val + 1) / 2 + q.val < 528,
    lit0 ⟨q.val * (q.val + 1) / 2 + q.val, h⟩ = BitVec.ofNat 32 q.val ∧ lit1 ⟨q.val * (q.val + 1) / 2 + q.val, h⟩ = BitVec.ofNat 32 q.val := by
  decide +kernel

/-- After the diagonal another row begins. -/
theorem word_step : ∀ (s : Fin 528) (h : s.val + 1 < 528), lit1 s = lit0 s → lit0 ⟨s.val + 1, h⟩ ≠ lit0 s := by decide +kernel

/-- Off a row's first column the scratches are kept. -/
theorem enter_keep (w : BitVec 32) (s : St Ideal) (h : w ≠ 0#32) : s.enter w = s := by
  have : Scalar.cmpi .ne (Scalar.extui (Scalar.cmpi .eq w 0#32)) 0#32 ≠ 1#1 := by
    simp only [Scalar.cmpi, IntOp.cmpi, Scalar.extui]
    rw [beq_eq_false_iff_ne.mpr h]; simp
  unfold St.enter
  rw [dif_neg this, dif_neg this, dif_neg this]

variable (m : (ℓ : Loc nD τ sig) → Buf (Elt Ideal) ℓ)

/-- The query array. -/
def aq (c : Dev nD) (r : Fin 32768) (l : Fin 1024) : EReal := (m ((c : Thread nD τ).loc main_arg0) : FVec Ideal S32768x1024 .bf16) (ix2 r l)
/-- The key array. -/
def ak (c : Dev nD) (r : Fin 32768) (l : Fin 1024) : EReal := (m ((c : Thread nD τ).loc main_arg1) : FVec Ideal S32768x1024 .bf16) (ix2 r l)
/-- The value array. -/
def av (c : Dev nD) (r : Fin 32768) (l : Fin 1024) : EReal := (m ((c : Thread nD τ).loc main_arg2) : FVec Ideal S32768x1024 .bf16) (ix2 r l)
/-- The gains. -/
def ag (c : Dev nD) (h : Fin 8) (d : Fin 128) : EReal := (m ((c : Thread nD τ).loc main_arg7) : FVec Ideal S8x128 .f32) (ix2 h d)
/-- The second map's weight. -/
def al (c : Dev nD) : EReal :=
  lam (fun x => (m ((c : Thread nD τ).loc main_arg3) : FVec Ideal S64 .f32) (ix1 x)) (fun x => (m ((c : Thread nD τ).loc main_arg4) : FVec Ideal S64 .f32) (ix1 x))
    (fun x => (m ((c : Thread nD τ).loc main_arg5) : FVec Ideal S64 .f32) (ix1 x)) (fun x => (m ((c : Thread nD τ).loc main_arg6) : FVec Ideal S64 .f32) (ix1 x))

section point
variable (c : Dev nD) (t : Fin (cfgA (F := Ideal)).N)

/-- A point's batch. -/
abbrev pb : ℕ := (grid0.coords t 0).val
/-- A point's head. -/
abbrev ph : ℕ := (grid0.coords t 1).val
/-- A point's block row. -/
abbrev pq : ℕ := (lit0 (stpt (F := Ideal) t)).toNat
/-- A point's block column. -/
abbrev pk : ℕ := (lit1 (stpt (F := Ideal) t)).toNat

/-- There are two batches. -/
theorem pb_lt : pb t < 2 := (co0 t).trans_lt (Nat.mod_lt _ (by decide))
/-- There are eight heads. -/
theorem ph_lt : ph t < 8 := (co1 t).trans_lt (Nat.mod_lt _ (by decide))
/-- There are 32 block rows. -/
theorem pq_lt : pq t < 32 := (word_pos _).2.2
/-- There are 32 block columns. -/
theorem pk_lt : pk t < 32 := Nat.lt_of_le_of_lt (word_pos _).2.1 (word_pos _).2.2

/-- A point's block scores are the row's scores at the block's keys. -/
theorem bs_at (μ : Fin 2) (r j : Fin 512) :
    bs (pq t) (pk t) (x1 m c t) (x2 m c t) μ r j = sc (aq m c) (ak m c) (pb t) (ph t) μ.val (512 * pq t + r.val) (512 * pk t + j.val) := by
  have hb := pb_lt t; have hh := ph_lt t; have hq := pq_lt t; have hk := pk_lt t
  unfold bs sc dt
  refine if_congr Iff.rfl (Finset.sum_congr rfl fun x _ => ?_) rfl
  have hμ := μ.isLt
  rw [at2_of _ _ _ (by omega) (by omega), at2_of _ _ _ (by omega) (by omega)]
  unfold aq ak
  rw [x1_at m c t r (ln μ x) (ix2 ⟨16384 * pb t + (512 * pq t + r.val), by omega⟩ ⟨128 * ph t + (64 * μ.val + x.val), by omega⟩)
      (by show 16384 * pb t + (512 * pq t + r.val) = (pb t * 32 + pq t) * 512 + r.val; omega) (by show 128 * ph t + (64 * μ.val + x.val) = ph t * 128 + (64 * μ.val + x.val); omega),
    x2_at m c t j (ln μ x) (ix2 ⟨16384 * pb t + (512 * pk t + j.val), by omega⟩ ⟨128 * ph t + (64 * μ.val + x.val), by omega⟩)
      (by show 16384 * pb t + (512 * pk t + j.val) = (pb t * 32 + pk t) * 512 + j.val; omega) (by show 128 * ph t + (64 * μ.val + x.val) = ph t * 128 + (64 * μ.val + x.val); omega)]

/-- A point's value block is the values at the block's keys. -/
theorem vl_at (hv : ∀ r l, av m c r l ≠ ⊥ ∧ av m c r l ≠ ⊤) (j : Fin 512) (d : Fin 128) :
    x3 m c t (ix2 j d) = ((vl (av m c) (pb t) (ph t) d.val (512 * pk t + j.val) : ℝ) : EReal) := by
  have hb := pb_lt t; have hh := ph_lt t; have hk := pk_lt t
  unfold vl
  rw [at2_of _ _ _ (by omega) (by omega), EReal.coe_toReal (hv _ _).2 (hv _ _).1]
  unfold av
  rw [x3_at m c t j d (ix2 ⟨16384 * pb t + (512 * pk t + j.val), by omega⟩ ⟨128 * ph t + d.val, by omega⟩)
      (by show 16384 * pb t + (512 * pk t + j.val) = (pb t * 32 + pk t) * 512 + j.val; omega) (by show 128 * ph t + d.val = ph t * 128 + d.val; omega)]

/-- The invariant of a point's row over the first `n` keys. -/
abbrev RowInv (s : St Ideal) (n : ℕ) : Prop :=
  Inv s (fun μ r => sc (aq m c) (ak m c) (pb t) (ph t) μ.val (512 * pq t + r.val)) (fun d => vl (av m c) (pb t) (ph t) d.val) n

/-- A point takes its row's invariant past its key block. -/
theorem row_step (hv : ∀ r l, av m c r l ≠ ⊥ ∧ av m c r l ≠ ⊤) (s : St Ideal) (h : RowInv m c t (s.enter (lit1 (stpt (F := Ideal) t))) (512 * pk t)) :
    RowInv m c t (s.next (lit0 (stpt (F := Ideal) t)) (lit1 (stpt (F := Ideal) t)) (x1 m c t) (x2 m c t) (x3 m c t)) (512 * (pk t + 1)) := by
  have := inv_step _ _ _ (pq t) (pk t) (pq_lt t) (pk_lt t) (x1 m c t) (x2 m c t) (x3 m c t) (512 * pk t) h (fun μ r j => bs_at m c t μ r j) (fun j d => vl_at m c t hv j d)
  rw [BitVec.ofNat_toNat, BitVec.ofNat_toNat, BitVec.setWidth_eq, BitVec.setWidth_eq] at this
  exact this

end point

/-- After each point its row's invariant holds over the keys up to its block. -/
theorem row_inv (c : Dev nD) (hv : ∀ r l, av m c r l ≠ ⊥ ∧ av m c r l ≠ ⊤) :
    ∀ (n : ℕ) (hn : n < (cfgA (F := Ideal)).N), RowInv m c ⟨n, hn⟩ (st m c (n + 1)) (512 * (pk ⟨n, hn⟩ + 1)) := by
  intro n
  induction n with
  | zero =>
    intro hn
    rw [st_succ m c ⟨0, hn⟩]
    refine row_step m c ⟨0, hn⟩ hv _ ?_
    have h0 : lit1 (stpt (F := Ideal) ⟨0, hn⟩) = 0#32 := by
      rw [show stpt (F := Ideal) ⟨0, hn⟩ = 0 from Fin.ext ((co2 ⟨0, hn⟩).trans (by simp))]; decide +kernel
    have hk : pk ⟨0, hn⟩ = 0 := by unfold pk; rw [h0]; rfl
    rw [hk, h0]
    exact inv_zero _ _ _
  | succ n ih =>
    intro hn
    rw [st_succ m c ⟨n + 1, hn⟩]
    refine row_step m c ⟨n + 1, hn⟩ hv _ ?_
    by_cases h0 : lit1 (stpt (F := Ideal) ⟨n + 1, hn⟩) = 0#32
    · have hk : pk ⟨n + 1, hn⟩ = 0 := by unfold pk; rw [h0]; rfl
      rw [hk, h0]
      exact inv_zero _ _ _
    · rw [enter_keep _ _ h0]
      obtain ⟨h1, h2, h3, h4⟩ := word_prev _ h0
      have hN := N_0
      have hn0 : n + 1 < grid0.N := hn
      have hn' : n < grid0.N := by omega
      have c0 := co0 ⟨n + 1, hn⟩; have c1 := co1 ⟨n + 1, hn⟩; have c2 := co2 ⟨n + 1, hn⟩
      have d0 := co0 ⟨n, hn'⟩; have d1 := co1 ⟨n, hn'⟩; have d2 := co2 ⟨n, hn'⟩
      dsimp only at c0 c1 c2 d0 d1 d2
      have e2 : stpt (F := Ideal) ⟨n, hn'⟩ = ⟨(stpt (F := Ideal) ⟨n + 1, hn⟩).val - 1, h1⟩ := Fin.ext (by
        show (stp (grid0.coords ⟨n, hn'⟩)).val = (stp (grid0.coords ⟨n + 1, hn⟩)).val - 1
        have h2' : (stp (grid0.coords ⟨n + 1, hn⟩)).val ≠ 0 := h2
        omega)
      have h2' : (stp (grid0.coords ⟨n + 1, hn⟩)).val ≠ 0 := h2
      have eb : pb ⟨n, hn'⟩ = pb ⟨n + 1, hn⟩ := by show (grid0.coords ⟨n, hn'⟩ 0).val = (grid0.coords ⟨n + 1, hn⟩ 0).val; omega
      have eh : ph ⟨n, hn'⟩ = ph ⟨n + 1, hn⟩ := by show (grid0.coords ⟨n, hn'⟩ 1).val = (grid0.coords ⟨n + 1, hn⟩ 1).val; omega
      have eq : pq ⟨n, hn'⟩ = pq ⟨n + 1, hn⟩ := by unfold pq; rw [e2, h3]
      have ek : pk ⟨n, hn'⟩ + 1 = pk ⟨n + 1, hn⟩ := by unfold pk; rw [e2, h4]
      have := ih hn'
      unfold RowInv at this ⊢
      rw [eb, eh, eq, ek] at this
      exact this

/-- The written block, entry by entry, from the scratches' rows. -/
theorem out_at (tb : Vec Ideal S8x128 .f32) (gn : Vec Ideal S1x1x128 .f32) (s : St Ideal) (x : Fin 128 → EReal) (l : EReal) (r : Fin 512)
    (hl : Ideal.exp (∑ x, (tb (ix2 0 x) : EReal) * (tb (ix2 1 x) : EReal)) - Ideal.exp (∑ x, (tb (ix2 2 x) : EReal) * (tb (ix2 3 x) : EReal)) + Ideal.ofBits FTy.f32 1052116297#32 = l)
    (hx : ∀ d, Ideal.div (s.a (ix3 0 r d)) (s.l (ix3 0 r 0)) - l * Ideal.div (s.a (ix3 1 r d)) (s.l (ix3 1 r 0)) = x d) (d : Fin 128) :
    St.out tb gn s (ix2 r d) = rms x 128 eps d * gn (ix3 0 0 d) * Ideal.ofBits FTy.f32 0x3F24FD5C#32 := by
  have e8 : ∀ (a a' : Vec Ideal S1x512x128 .f32) (l0 l1 : Vec Ideal S1x512x1 .f32)
      (_ : ∀ d, Ideal.div (a (ix3 0 r d)) (l0 (ix3 0 r 0)) - l * Ideal.div (a' (ix3 0 r d)) (l1 (ix3 0 r 0)) = x d) (d : Fin 128),
      k0_pay7 (k0_pay8 tb a l0 a' l1) (k0_pay9 tb a l0 a' l1) gn (ix2 r d) = rms x 128 eps d * gn (ix3 0 0 d) * Ideal.ofBits FTy.f32 0x3F24FD5C#32 := by
    intro a a' l0 l1 hx d
    have e : ∀ d : Fin 128, k0_pay8 tb a l0 a' l1 (ix2 r d) = x d := fun d => by
      pointwise [k0_pay8]
      exact (congrArg (fun z : EReal => Ideal.div (a (ix3 0 r d)) (l0 (ix3 0 r 0)) - z * Ideal.div (a' (ix3 0 r d)) (l1 (ix3 0 r 0))) hl).trans (hx d)
    pointwise [k0_pay7, k0_pay9]
    simp only [e]
    unfold rms
    rw [← eps_eq, ← w128]
  refine e8 _ _ _ _ (fun d => ?_) d
  have a0 := ra128 r d; have a1 := rb128 r d; have l0 := ra1 r; have l1 := rb1 r
  show Ideal.div (s.a (r128a.idx (ix3 0 r d))) (s.l (r1a.idx (ix3 0 r 0))) - l * Ideal.div (s.a (r128b.idx (ix3 0 r d))) (s.l (r1b.idx (ix3 0 r 0))) = x d
  rw [a0, a1, l0, l1]
  exact hx d

/-- The table's rows give the second map's weight. -/
theorem lam_at (c : Dev nD) (t : Fin (cfgA (F := Ideal)).N) :
    Ideal.exp (∑ x, (x0 m c t (ix2 0 x) : EReal) * (x0 m c t (ix2 1 x) : EReal)) - Ideal.exp (∑ x, (x0 m c t (ix2 2 x) : EReal) * (x0 m c t (ix2 3 x) : EReal))
      + Ideal.ofBits FTy.f32 1052116297#32 = al m c := by
  unfold al lam
  have h01 := table_dot (fun _ => (0 : EReal)) (fun _ => rfl) (rows4 (m ((c : Thread nD τ).loc main_arg3)) (m ((c : Thread nD τ).loc main_arg4)) (m ((c : Thread nD τ).loc main_arg5)) (m ((c : Thread nD τ).loc main_arg6))) 0 1
  have h23 := table_dot (fun _ => (0 : EReal)) (fun _ => rfl) (rows4 (m ((c : Thread nD τ).loc main_arg3)) (m ((c : Thread nD τ).loc main_arg4)) (m ((c : Thread nD τ).loc main_arg5)) (m ((c : Thread nD τ).loc main_arg6))) 2 3
  simp only [rows4_0, rows4_1] at h01
  simp only [rows4_2, rows4_3] at h23
  simp only [x0_at]
  rw [← h01, ← h23]
  rfl

/-- The result array, entry by entry. -/
def G5 (c : Dev nD) : FVec Ideal S32768x1024 .bf16 := fun i =>
  res (aq m c) (ak m c) (av m c) (al m c) ((i 0).val / 16384) ((i 1).val / 128) ((i 0).val % 16384)
    (ag m c ⟨(i 1).val / 128, Nat.div_lt_of_lt_mul (i 1).isLt⟩) ⟨(i 1).val % 128, Nat.mod_lt _ (by decide)⟩

/-- At a diagonal point the written block's entries are the result's. -/
theorem block_at (c : Dev nD) (hv : ∀ r l, av m c r l ≠ ⊥ ∧ av m c r l ≠ ⊤) (t : Fin (cfgA (F := Ideal)).N) (hd : pk t = pq t) (r : Fin 512) (d : Fin 128)
    (i : S32768x1024.Idx) (h0 : (i 0).val = (pb t * 32 + pq t) * 512 + r.val) (h1 : (i 1).val = ph t * 128 + d.val) :
    St.out (x0 m c t) (x4 m c t) (st m c (t.val + 1)) (ix2 r d) = G5 m c i := by
  have hb := pb_lt t; have hh := ph_lt t; have hq := pq_lt t
  have hi := row_inv m c hv t.val t.isLt
  rw [out_at _ _ _ (diff (aq m c) (ak m c) (av m c) (al m c) (pb t) (ph t) (512 * pq t + r.val) 16384) (al m c) r (lam_at m c t) (fun d => ?_) d, x4_at]
  · unfold G5 res
    have e0 : (i 0).val / 16384 = pb t := by omega
    have e1 : (i 1).val / 128 = ph t := by omega
    have e2 : (i 0).val % 16384 = 512 * pq t + r.val := by omega
    have e3 : (⟨(i 1).val % 128, Nat.mod_lt _ (by decide)⟩ : Fin 128) = d := Fin.ext (by show (i 1).val % 128 = d.val; omega)
    have e4 : ag m c ⟨(i 1).val / 128, Nat.div_lt_of_lt_mul (i 1).isLt⟩ = fun d => (m ((c : Thread nD τ).loc main_arg7) : FVec Ideal S8x128 .f32) (ix2 ⟨ph t, ph_lt t⟩ d) := by
      unfold ag
      exact funext fun d => congrArg (fun h : Fin 8 => (m ((c : Thread nD τ).loc main_arg7) : FVec Ideal S8x128 .f32) (ix2 h d)) (Fin.ext e1)
    rw [e4, e0, e1, e2, e3]
  · rw [hi.a 0 r d, hi.a 1 r d, hi.l 0 r, hi.l 1 r, ← diff_tail _ _ _ _ _ _ _ (512 * (pk t + 1)) (by omega) (by omega)]
    rfl

/-- At a diagonal point the block is written back. -/
theorem flush_diag (t : Fin (cfgA (F := Ideal)).N) (h : lit1 (stpt (F := Ideal) t) = lit0 (stpt (F := Ideal) t)) : ((cfgA (F := Ideal)).win (5 : Fin 6)).flush t = true := by
  have key : Pipeline.Window.flushOf grid0 true (cc0_transform_5 k0_off1_inb numel1_S1 (tabs (F := Ideal))) t = true := by
    unfold Pipeline.Window.flushOf
    rw [Bool.true_and, Bool.or_eq_true, decide_eq_true_eq, decide_eq_true_eq]
    by_cases hl : t.val + 1 = grid0.N
    · exact .inl hl
    · have hN := N_0
      have ht : t.val < grid0.N := t.isLt
      have h' : t.val + 1 < grid0.N := by omega
      refine .inr ⟨h', fun e => ?_⟩
      rw [map5, map5] at e
      have e0 := congrFun e 0
      have e1 := congrFun e 1
      have e0' : (grid0.coords ⟨t.val + 1, h'⟩ 0).val * 32 + (lit0 (stp (grid0.coords ⟨t.val + 1, h'⟩))).toNat = (grid0.coords t 0).val * 32 + (lit0 (stp (grid0.coords t))).toNat := by
        first | exact e0 | exact e0.symm
      have e1' : (grid0.coords ⟨t.val + 1, h'⟩ 1).val = (grid0.coords t 1).val := by
        first | exact e1 | exact e1.symm
      have c0 := co0 t; have c1 := co1 t; have c2 := co2 t
      have d0 := co0 ⟨t.val + 1, h'⟩; have d1 := co1 ⟨t.val + 1, h'⟩; have d2 := co2 ⟨t.val + 1, h'⟩
      dsimp only at d0 d1 d2
      have q0 := (word_pos (stp (grid0.coords t))).2.2
      have q1 := (word_pos (stp (grid0.coords ⟨t.val + 1, h'⟩))).2.2
      by_cases hs : (stp (grid0.coords t)).val + 1 < 528
      · have es : stp (grid0.coords ⟨t.val + 1, h'⟩) = ⟨(stp (grid0.coords t)).val + 1, hs⟩ := Fin.ext (by
          show (stp (grid0.coords ⟨t.val + 1, h'⟩)).val = (stp (grid0.coords t)).val + 1; omega)
        refine word_step _ hs h ?_
        rw [← es]
        exact BitVec.eq_of_toNat_eq (by omega)
      · omega
  exact key

/-- After the run the result array holds the normalized difference of the two maps. -/
theorem final5 (c : Dev nD) (hv : ∀ r l, av m c r l ≠ ⊥ ∧ av m c r l ≠ ⊤) :
    (dats m 0 c).arrAt (5 : Fin 6) (cfgA (F := Ideal)).N = G5 m c := by
  have emb : ∀ (t : Fin (cfgA (F := Ideal)).N) (r : Fin 512) (d : Fin 128),
      ((((cfgA (F := Ideal)).win (5 : Fin 6)).rect t).emb (ix2 r d) 0).val = (pb t * 32 + pq t) * 512 + r.val
      ∧ ((((cfgA (F := Ideal)).win (5 : Fin 6)).rect t).emb (ix2 r d) 1).val = ph t * 128 + d.val := fun t r d => by
    have e1 : ((cfgA (F := Ideal)).win 5).index t = ![(grid0.coords t 0).val * 32 + (lit0 (stp (grid0.coords t))).toNat, (grid0.coords t 1).val] := map5 (F := Ideal) (grid0.coords t)
    constructor
    · refine (Pipeline.Window.rect_emb_val ((cfgA (F := Ideal)).win (5 : Fin 6)) t (ix2 r d) 0).trans ?_
      rw [e1]; rfl
    · refine (Pipeline.Window.rect_emb_val ((cfgA (F := Ideal)).win (5 : Fin 6)) t (ix2 r d) 1).trans ?_
      rw [e1]; rfl
  refine (dats m 0 c).arrAt_eq_of_emb (5 : Fin 6) _ (fun t hf y => ?_) fun i => ?_
  · have hd : pk t = pq t := by
      by_contra h
      have := flush5 (F := Ideal) t (fun e => h (congrArg BitVec.toNat e))
      rw [this] at hf; exact Bool.noConfusion hf
    rw [after5]
    obtain ⟨r, d, rfl⟩ : ∃ (r : Fin 512) (d : Fin 128), y = (ix2 r d : S512x128.Idx) := ⟨y 0, y 1, eq_ix2 y⟩
    exact block_at m c hv t hd r d _ (emb t r d).1 (emb t r d).2
  · have hi0 : (i 0).val < 32768 := (i 0).isLt
    have hi1 : (i 1).val < 1024 := (i 1).isLt
    have hq : (i 0).val % 16384 / 512 < 32 := by omega
    obtain ⟨hs, hl0, hl1⟩ := word_diag ⟨(i 0).val % 16384 / 512, hq⟩
    dsimp only at hs hl0 hl1
    have hN := N_0
    obtain ⟨s, hse⟩ : ∃ s, s = (i 0).val % 16384 / 512 * ((i 0).val % 16384 / 512 + 1) / 2 + (i 0).val % 16384 / 512 := ⟨_, rfl⟩
    have hs' : s < 528 := hse ▸ hs
    have ht : (i 0).val / 16384 * 4224 + (i 1).val / 128 * 528 + s < grid0.N := by omega
    obtain ⟨t, hte⟩ : ∃ t : Fin grid0.N, t = ⟨(i 0).val / 16384 * 4224 + (i 1).val / 128 * 528 + s, ht⟩ := ⟨_, rfl⟩
    have htv : t.val = (i 0).val / 16384 * 4224 + (i 1).val / 128 * 528 + s := by rw [hte]
    have c0 := co0 t; have c1 := co1 t; have c2 := co2 t
    have es : stpt (F := Ideal) t = ⟨_, hs⟩ := Fin.ext (by
      show (stp (grid0.coords t)).val = (i 0).val % 16384 / 512 * ((i 0).val % 16384 / 512 + 1) / 2 + (i 0).val % 16384 / 512
      rw [← hse]; omega)
    have hpq : pq t = (i 0).val % 16384 / 512 := by
      unfold pq; rw [es, hl0, BitVec.toNat_ofNat]; omega
    refine ⟨t, flush_diag t (by rw [es, hl0, hl1]), ?_⟩
    have hb : pb t = (i 0).val / 16384 := by show (grid0.coords t 0).val = _; omega
    have hh : ph t = (i 1).val / 128 := by show (grid0.coords t 1).val = _; omega
    have : i = (((cfgA (F := Ideal)).win (5 : Fin 6)).rect t).emb (ix2 (⟨(i 0).val % 512, Nat.mod_lt _ (by decide)⟩ : Fin 512) (⟨(i 1).val % 128, Nat.mod_lt _ (by decide)⟩ : Fin 128)) := by
      have e := emb t ⟨(i 0).val % 512, Nat.mod_lt _ (by decide)⟩ ⟨(i 1).val % 128, Nat.mod_lt _ (by decide)⟩
      funext a
      match a with
      | ⟨0, _⟩ => exact Fin.ext (Eq.trans (by rw [hb, hpq]; show (i 0).val = ((i 0).val / 16384 * 32 + (i 0).val % 16384 / 512) * 512 + (i 0).val % 512; omega) e.1.symm)
      | ⟨1, _⟩ => exact Fin.ext (Eq.trans (by rw [hh]; show (i 1).val = (i 1).val / 128 * 128 + (i 1).val % 128; omega) e.2.symm)
    rw [this]
    exact (((cfgA (F := Ideal)).win (5 : Fin 6)).blk t).view.emb_mem_set _

end Cert.KernelIdeal.Att

end
-- ==== Proof.RefDefI.lean ====
/- The reference over the extended reals: what its operations compose to. -/
module

public import proofs.«01_k».proof.Proof.RefI
public import proofs.«01_k».proof.Proof.Spec
public import Idealize.ShloMosaic.Lib.Pointwise

@[expose] public section

set_option maxRecDepth 16384

noncomputable section

namespace Cert.ReferenceIdeal.Att

open Idealize.ShloMosaic Idealize.ShloMosaic.TcCoe Idealize.SL.Sem
open Cert.ReferenceIdeal Cert.ReferenceIdeal.Gen
open Cert.Att

/-- The causal mask. -/
def rM : IVec S16384x16384 1 :=
  cmpi .sle (broadcastInDim S16384x16384 ![0, 1] bcast_S1x16384_S16384x16384_0_1 (broadcastInDim S1x16384 ![1] bcast_S16384_S1x16384_1 (iotaInDim S16384 32 0)))
    (broadcastInDim S16384x16384 ![0, 1] bcast_S16384x1_S16384x16384_0_1 (broadcastInDim S16384x1 ![0] bcast_S16384_S16384x1_0 (iotaInDim S16384 32 0)))

/-- The dot products. -/
def rD (q k : FVec Ideal S32768x1024 .bf16) : FVec Ideal S2x8x2x16384x16384 .f32 :=
  Host.dotGeneral dot_S2x16384x8x2x64_S2x16384x8x2x64_S2x8x2x16384x16384_4_4_1_1_023_023 none
    (shapeCast S2x16384x8x2x64 (extf .f32 q bitsLt_bf16_f32) shapeCasts_S32768x1024_S2x16384x8x2x64)
    (shapeCast S2x16384x8x2x64 (extf .f32 k bitsLt_bf16_f32) shapeCasts_S32768x1024_S2x16384x8x2x64)

/-- The masked scores. -/
def rL (q k : FVec Ideal S32768x1024 .bf16) : FVec Ideal S2x8x2x16384x16384 .f32 :=
  select (broadcastInDim S2x8x2x16384x16384 ![3, 4] bcast_S16384x16384_S2x8x2x16384x16384_3_4 rM) (rD q k)
    (broadcastInDim S2x8x2x16384x16384 ![] bcast_S_S2x8x2x16384x16384 (id (constant S_ .f32 0xFF800000#32)))

/-- The rows' greatest scores. -/
def rX (L : FVec Ideal S2x8x2x16384x16384 .f32) : FVec Ideal S2x8x2x16384 .f32 :=
  Host.reduce FloatOps.maximumf L (constant S_ .f32 0xFF800000#32) reducesTo_S2x8x2x16384x16384_S2x8x2x16384_d4 h_S_

/-- The exponentials of the scores less their row's greatest. -/
def rE (L : FVec Ideal S2x8x2x16384x16384 .f32) (X : FVec Ideal S2x8x2x16384 .f32) : FVec Ideal S2x8x2x16384x16384 .f32 :=
  Host.exp (subf L (broadcastInDim S2x8x2x16384x16384 ![0, 1, 2, 3, 4] bcast_S2x8x2x16384x1_S2x8x2x16384x16384_0_1_2_3_4
    (broadcastInDim S2x8x2x16384x1 ![0, 1, 2, 3] bcast_S2x8x2x16384_S2x8x2x16384x1_0_1_2_3
      (maximumf (broadcastInDim S2x8x2x16384 ![] bcast_S_S2x8x2x16384 (constant S_ .f32 0xFF800000#32))
        X))))

/-- The exponentials over their row's sum. -/
def rP (E : FVec Ideal S2x8x2x16384x16384 .f32) : FVec Ideal S2x8x2x16384x16384 .f32 :=
  Host.divf E (broadcastInDim S2x8x2x16384x16384 ![0, 1, 2, 3, 4] bcast_S2x8x2x16384x1_S2x8x2x16384x16384_0_1_2_3_4
    (broadcastInDim S2x8x2x16384x1 ![0, 1, 2, 3] bcast_S2x8x2x16384_S2x8x2x16384x1_0_1_2_3
      (Host.reduceAdd E (constant S_ .f32 0x00000000#32) reducesTo_S2x8x2x16384x16384_S2x8x2x16384_d4 h_S_)))

/-- The second map's weight. -/
def rW (a b c d : FVec Ideal S64 .f32) : FVec Ideal S_ .f32 :=
  addf (subf (Host.exp (Host.reduceAdd (mulf a b) (constant S_ .f32 0x00000000#32) reducesTo_S64_S_d0 h_S_))
    (Host.exp (Host.reduceAdd (mulf c d) (constant S_ .f32 0x00000000#32) reducesTo_S64_S_d0 h_S_))) (constant S_ .f32 0x3EB60549#32)

/-- The values mixed by the difference of the two maps. -/
def rO (v : FVec Ideal S32768x1024 .bf16) (W : FVec Ideal S_ .f32) (P : FVec Ideal S2x8x2x16384x16384 .f32) : FVec Ideal S2x16384x8x128 .f32 :=
  transpose S2x16384x8x128 [0, 3, 1, 2]
    (Host.dotGeneral dot_S2x16384x8x128_S2x8x16384x16384_S2x8x128x16384_1_3_3_2_02_01 none
      (shapeCast S2x16384x8x128 (extf .f32 v bitsLt_bf16_f32) shapeCasts_S32768x1024_S2x16384x8x128)
      (subf (shapeCast S2x8x16384x16384 (extractStridedSlice S2x8x1x16384x16384 ![0, 0, 0, 0, 0] P slices_S2x8x2x16384x16384_S2x8x1x16384x16384_0_0_0_0_0) shapeCasts_S2x8x1x16384x16384_S2x8x16384x16384)
        (mulf (broadcastInDim S2x8x16384x16384 ![] bcast_S_S2x8x16384x16384 W)
          (shapeCast S2x8x16384x16384 (extractStridedSlice S2x8x1x16384x16384 ![0, 0, 1, 0, 0] P slices_S2x8x2x16384x16384_S2x8x1x16384x16384_0_0_1_0_0) shapeCasts_S2x8x1x16384x16384_S2x8x16384x16384))))
    transposes_S2x8x128x16384_S2x16384x8x128_0_3_1_2

/-- The head-wise normalized output. -/
def rN (O : FVec Ideal S2x16384x8x128 .f32) (g : FVec Ideal S8x128 .f32) : FVec Ideal S32768x1024 .bf16 :=
  truncf .bf16 (shapeCast S32768x1024
    (mulf (mulf (mulf O (broadcastInDim S2x16384x8x128 ![0, 1, 2, 3] bcast_S2x16384x8x1_S2x16384x8x128_0_1_2_3
        (Host.rsqrt (addf (Host.divf (broadcastInDim S2x16384x8x1 ![0, 1, 2] bcast_S2x16384x8_S2x16384x8x1_0_1_2
          (Host.reduceAdd (mulf O O) (constant S_ .f32 0x00000000#32) reducesTo_S2x16384x8x128_S2x16384x8_d3 h_S_))
          (broadcastInDim S2x16384x8x1 ![] bcast_S_S2x16384x8x1 (constant S_ .f32 0x43000000#32)))
          (broadcastInDim S2x16384x8x1 ![] bcast_S_S2x16384x8x1 (constant S_ .f32 0x358637BD#32))))))
      (broadcastInDim S2x16384x8x128 ![0, 1, 2, 3] bcast_S1x1x8x128_S2x16384x8x128_0_1_2_3 (broadcastInDim S1x1x8x128 ![2, 3] bcast_S8x128_S1x1x8x128_2_3 g)))
      (broadcastInDim S2x16384x8x128 ![] bcast_S_S2x16384x8x128 (constant S_ .f32 0x3F24FD5C#32)))
    shapeCasts_S2x16384x8x128_S32768x1024) bitsLt_bf16_f32

/-- The reference's result. -/
def rOut (q k v : FVec Ideal S32768x1024 .bf16) (a b c d : FVec Ideal S64 .f32) (g : FVec Ideal S8x128 .f32) : FVec Ideal S32768x1024 .bf16 :=
  rN (rO v (rW a b c d) (rP (rE (rL q k) (rX (rL q k))))) g

end Cert.ReferenceIdeal.Att

end
-- ==== Proof.RefRunI.lean ====
/- The reference's run and what it returns. -/
module

public import proofs.«01_k».proof.Proof.RefDefI
public import proofs.«01_k».proof.Proof.Spec
public import Idealize.ShloMosaic.Lib.StableHlo.ReadAt

@[expose] public section

set_option maxRecDepth 16384

noncomputable section

namespace Cert.ReferenceIdeal.Att

open Idealize.ShloMosaic Idealize.ShloMosaic.TcCoe Idealize.SL.Sem
open Cert.ReferenceIdeal Cert.ReferenceIdeal.Gen
open Cert.Att

set_option maxHeartbeats 4000000 in
/-- The reference ends with its result and its arguments unchanged. -/
theorem run_ref (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v58) = rOut (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) := by
  have h := StableHlo.run_hlo (defs (F := Ideal)) (main (F := Ideal)) (by hlo_seq) (by decide) (by decide) (by simp)
    (by intro _ h; (repeat (cases h with | head => rfl | tail _ h => ?_)); exact nomatch h) m g
  refine θ_run_mono h fun r hr => ?_
  clear h
  intro c
  have hc := hr c
  refine ⟨?_, ?_⟩
  · unfold rOut rN rO rP rE rX rL rM rD rW
    rw [hc]
    after_reads_simp
    simp -implicitDefEqProofs only [StableHlo.TRef.toBuf, StableHlo.TRef.ofBuf, cast_cast, cast_eq]
    rfl
  · and_intros
    all_goals run_conjunct

end Cert.ReferenceIdeal.Att

end
-- ==== Proof.RefValI.lean ====
/- The reference's entries. -/
module

public import proofs.«01_k».proof.Proof.RefDefI
public import proofs.«01_k».proof.Proof.Spec
public import Idealize.ShloMosaic.Lib.Pointwise

@[expose] public section

set_option maxRecDepth 16384

noncomputable section

namespace Cert.ReferenceIdeal.Att

open Idealize.ShloMosaic Idealize.ShloMosaic.TcCoe Idealize.SL.Sem
open Cert.ReferenceIdeal Cert.ReferenceIdeal.Gen
open Cert.Att

/-- The mask at a row and a key. -/
theorem mask_at (i j : ℕ) (hi : i < 16384) (hj : j < 16384) : IntOp.cmpi CmpIPredicate.sle (BitVec.ofNat 32 j) (BitVec.ofNat 32 i) = if j ≤ i then 1#1 else 0#1 := by
  have e : ∀ n, n < 16384 → (BitVec.ofNat 32 n).toInt = (n : ℤ) := fun n hn => by
    rw [BitVec.toInt_eq_toNat_of_lt (by rw [BitVec.toNat_ofNat]; omega), BitVec.toNat_ofNat, Nat.mod_eq_of_lt (by omega)]
  unfold IntOp.cmpi
  simp only [BitVec.sle, e i hi, e j hj]
  by_cases h : j ≤ i
  · rw [if_pos h]; simp [h]
  · rw [if_neg h]; simp [h]

/-- The word of minus infinity. -/
theorem ninf : Ideal.ofBits FTy.f32 4286578688#32 = (⊥ : EReal) := by simp [Ideal.ofBits, Ideal.ieee]

/-- A masked score, by its row and key. -/
theorem rL_at (q k : FVec Ideal S32768x1024 .bf16) (b : Fin 2) (h : Fin 8) (μ : Fin 2) (i j : Fin 16384) :
    rL q k (ix5 b h μ i j) = sc (fun r l => q (ix2 r l)) (fun r l => k (ix2 r l)) b.val h.val μ.val i.val j.val := by
  have hb := b.isLt; have hh := h.isLt; have hμ := μ.isLt; have hi := i.isLt; have hj := j.isLt
  have e : ∀ (z : EReal) (_ : z = ∑ x : Fin 64, at2 (fun r l => q (ix2 r l)) (16384 * b.val + i.val) (128 * h.val + (64 * μ.val + x.val)) * at2 (fun r l => k (ix2 r l)) (16384 * b.val + j.val) (128 * h.val + (64 * μ.val + x.val))),
      Scalar.select (IntOp.cmpi CmpIPredicate.sle (BitVec.ofNat 32 j.val) (BitVec.ofNat 32 i.val)) z (Ideal.ofBits FTy.f32 4286578688#32)
        = sc (fun r l => q (ix2 r l)) (fun r l => k (ix2 r l)) b.val h.val μ.val i.val j.val := by
    intro z hz
    rw [mask_at _ _ hi hj, hz, ninf]
    unfold sc Scalar.select
    by_cases hji : j.val ≤ i.val
    · rw [if_pos hji, if_pos hji]; rfl
    · rw [if_neg hji, if_neg hji]; rfl
  unfold rL rM rD
  pointwise
  refine e _ (Finset.sum_congr rfl fun x _ => ?_)
  rw [at2_of _ _ _ (by omega) (by omega), at2_of _ _ _ (by omega) (by omega)]
  exact congrArg₂ (fun y z : EReal => y * z)
    (congrArg q (congrArg₂ ix2 (Fin.ext (by show b.val * 16384 + i.val = 16384 * b.val + i.val; omega)) (Fin.ext (by show h.val * 128 + μ.val * 64 + x.val = 128 * h.val + (64 * μ.val + x.val); omega))))
    (congrArg k (congrArg₂ ix2 (Fin.ext (by show b.val * 16384 + j.val = 16384 * b.val + j.val; omega)) (Fin.ext (by show h.val * 128 + μ.val * 64 + x.val = 128 * h.val + (64 * μ.val + x.val); omega))))

/-- A maximum over the last of five axes. -/
theorem last_max {n0 n1 n2 n3 n4 : ℕ} (x : FVec Ideal (⟨5, ![n0, n1, n2, n3, n4]⟩ : Shape) .f32) (init : FVec Ideal S_ .f32)
    (h : (⟨5, ![n0, n1, n2, n3, n4]⟩ : Shape).ReducesTo [4] ⟨4, ![n0, n1, n2, n3]⟩) (hu : 0 < S_.numel) (a : Fin n0) (b : Fin n1) (c : Fin n2) (d : Fin n3) :
    Host.reduce FloatOps.maximumf x init h hu (ix4 a b c d) = (Finset.univ : Finset (Fin n4)).fold max (init (Shape.Idx.first hu) : EReal) (fun k => x (ix5 a b c d k)) := by
  simp only [pointwise]

/-- The fold of a row's scores by the maximum, from minus infinity. -/
theorem fold_mx (n : ℕ) (t : ℕ → EReal) (z : EReal) (f : Fin n → EReal) (hz : z = ⊥) (hf : ∀ k, f k = t k.val) : (Finset.univ : Finset (Fin n)).fold max z f = mx t n := by
  rw [hz, show f = fun k => t k.val from funext hf]
  exact fold_max n t

/-- A row's greatest score, by the row's scores. -/
theorem rX_at (L : FVec Ideal S2x8x2x16384x16384 .f32) (b : Fin 2) (h : Fin 8) (μ : Fin 2) (i : Fin 16384) (t : ℕ → EReal) (ht : ∀ j : Fin 16384, L (ix5 b h μ i j) = t j.val) :
    rX L (ix4 b h μ i) = mx t 16384 := by
  unfold rX
  exact (last_max L _ _ _ b h μ i).trans (fold_mx 16384 t _ _ ninf ht)

/-- An exponential, by its score and its row's greatest. -/
theorem rE_at (L : FVec Ideal S2x8x2x16384x16384 .f32) (X : FVec Ideal S2x8x2x16384 .f32) (b : Fin 2) (h : Fin 8) (μ : Fin 2) (i j : Fin 16384) (x y : EReal)
    (hx : L (ix5 b h μ i j) = x) (hy : X (ix4 b h μ i) = y) : rE L X (ix5 b h μ i j) = Ideal.exp (x - y) := by
  have e : Ideal.exp (L (ix5 b h μ i j) - max (Ideal.ofBits FTy.f32 4286578688#32) (X (ix4 b h μ i))) = Ideal.exp (x - y) := by
    rw [hx, hy, ninf, max_eq_right bot_le]
  unfold rE
  pointwise
  exact e

/-- A probability, by its row's exponentials. -/
theorem rP_at (E : FVec Ideal S2x8x2x16384x16384 .f32) (b : Fin 2) (h : Fin 8) (μ : Fin 2) (i j : Fin 16384) (x : EReal)
    (hx : Ideal.div (E (ix5 b h μ i j)) (∑ j', E (ix5 b h μ i j')) = x) : rP E (ix5 b h μ i j) = x := by
  unfold rP
  pointwise
  exact hx

/-- A probability of the reference. -/
theorem prob_at (q k : FVec Ideal S32768x1024 .bf16) (b : Fin 2) (h : Fin 8) (μ : Fin 2) (i j : Fin 16384) :
    rP (rE (rL q k) (rX (rL q k))) (ix5 b h μ i j) = prob (sc (fun r l => q (ix2 r l)) (fun r l => k (ix2 r l)) b.val h.val μ.val i.val) 16384 j := by
  have e : ∀ j, rE (rL q k) (rX (rL q k)) (ix5 b h μ i j) = _ := fun j =>
    rE_at _ _ b h μ i j _ _ (rL_at q k b h μ i j) (rX_at _ b h μ i (sc (fun r l => q (ix2 r l)) (fun r l => k (ix2 r l)) b.val h.val μ.val i.val) (rL_at q k b h μ i))
  refine rP_at _ b h μ i j _ ?_
  unfold prob
  exact congrArg₂ Ideal.div (e j) (Finset.sum_congr rfl fun j' _ => e j')

/-- The second map's weight. -/
theorem rW_at (a b c d : FVec Ideal S64 .f32) : rW a b c d ix0 = lam (fun x => a (ix1 x)) (fun x => b (ix1 x)) (fun x => c (ix1 x)) (fun x => d (ix1 x)) := by
  unfold rW
  pointwise
  rfl

/-- A mixed value, by the row's probabilities. -/
theorem rO_at (v : FVec Ideal S32768x1024 .bf16) (W : FVec Ideal S_ .f32) (P : FVec Ideal S2x8x2x16384x16384 .f32) (b : Fin 2) (i : Fin 16384) (h : Fin 8) (d : Fin 128) (l : EReal) (p0 p1 : Fin 16384 → EReal)
    (hW : W ix0 = l) (h0 : ∀ j, P (ix5 b h 0 i j) = p0 j) (h1 : ∀ j, P (ix5 b h 1 i j) = p1 j) :
    rO v W P (ix4 b i h d) = ∑ j : Fin 16384, at2 (fun r l => v (ix2 r l)) (16384 * b.val + j.val) (128 * h.val + d.val) * (p0 j - l * p1 j) := by
  have hb := b.isLt; have hh := h.isLt; have hd := d.isLt
  unfold rO
  pointwise
  refine Finset.sum_congr rfl fun x _ => ?_
  have hx := x.isLt
  rw [at2_of _ _ _ (by omega) (by omega), hW, h0, h1]
  exact congrArg (fun y : EReal => y * (p0 x - l * p1 x))
    (congrArg v (congrArg₂ ix2 (Fin.ext (by show b.val * 16384 + x.val = 16384 * b.val + x.val; omega)) (Fin.ext (by show h.val * 128 + d.val = 128 * h.val + d.val; omega))))

/-- The result's entries, by the mixed rows. -/
theorem rN_at (O : FVec Ideal S2x16384x8x128 .f32) (g : FVec Ideal S8x128 .f32) (r : Fin 32768) (l : Fin 1024) (x : Fin 128 → EReal)
    (hx : ∀ d, O (ix4 ⟨r.val / 16384, by omega⟩ ⟨r.val % 16384, by omega⟩ ⟨l.val / 128, by omega⟩ d) = x d) :
    rN O g (ix2 r l) = rms x 128 eps ⟨l.val % 128, by omega⟩ * g (ix2 ⟨l.val / 128, by omega⟩ ⟨l.val % 128, by omega⟩) * Ideal.ofBits FTy.f32 0x3F24FD5C#32 := by
  unfold rN
  pointwise
  simp only [hx]
  unfold rms
  rw [← eps_eq, ← w128]

/-- The reference's result, entry by entry. -/
theorem rOut_at (q k v : FVec Ideal S32768x1024 .bf16) (a b c d : FVec Ideal S64 .f32) (g : FVec Ideal S8x128 .f32)
    (hv : ∀ i, v i ≠ (⊥ : EReal) ∧ v i ≠ (⊤ : EReal))
    (hl : lam (fun x => a (ix1 x)) (fun x => b (ix1 x)) (fun x => c (ix1 x)) (fun x => d (ix1 x)) ≠ ⊥ ∧ lam (fun x => a (ix1 x)) (fun x => b (ix1 x)) (fun x => c (ix1 x)) (fun x => d (ix1 x)) ≠ ⊤)
    (r : Fin 32768) (l : Fin 1024) :
    rOut q k v a b c d g (ix2 r l)
      = res (fun r l => q (ix2 r l)) (fun r l => k (ix2 r l)) (fun r l => v (ix2 r l)) (lam (fun x => a (ix1 x)) (fun x => b (ix1 x)) (fun x => c (ix1 x)) (fun x => d (ix1 x)))
        (r.val / 16384) (l.val / 128) (r.val % 16384) (fun d => g (ix2 ⟨l.val / 128, by omega⟩ d)) ⟨l.val % 128, by omega⟩ := by
  unfold rOut
  refine (rN_at _ g r l _ (fun d' => rO_at v _ _ _ _ _ d' _ _ _ (rW_at a b c d) (fun j => prob_at q k _ _ 0 _ j) (fun j => prob_at q k _ _ 1 _ j))).trans ?_
  unfold res
  have key := rms_mixed (fun r l => q (ix2 r l)) (fun r l => k (ix2 r l)) (fun r l => v (ix2 r l)) _ (r.val / 16384) (l.val / 128) (r.val % 16384) (fun r l => hv (ix2 r l)) hl (by omega) (by omega) 16384 le_rfl ⟨l.val % 128, by omega⟩
  exact congrArg (fun z : EReal => z * g (ix2 ⟨l.val / 128, by omega⟩ ⟨l.val % 128, by omega⟩) * Ideal.ofBits FTy.f32 0x3F24FD5C#32) key

end Cert.ReferenceIdeal.Att

end
-- ==== Proof.FiniteI.lean ====
/- What the precondition says over the extended reals. -/
module

public import proofs.«01_k».proof.Defs
public import proofs.«01_k».proof.Proof.Spec
public import Idealize.ShloMosaic.Lib.Pointwise

@[expose] public section

set_option maxRecDepth 16384

noncomputable section

namespace Cert.Pre_finite.Att

open Idealize.ShloMosaic
open Cert.Pre_finite
open Cert.Att

/-- The side conditions of the precondition's operations. -/
theorem facts : Cert.Pre_finite.Facts where
  reducesTo_S64_S_d0 := by decide
  h_S_ := by decide
  bitsLt_bf16_f32 := by decide
  bcast_S_S32768x1024 := by decide

/-- They hold. -/
instance : Cert.Pre_finite.Facts := facts

/-- A bit conjunction that is one has both its bits one. -/
theorem both (p q : Bool) (h : IntOp.andi (BitVec.ofBool p) (BitVec.ofBool q) = 1#1) : p = true ∧ q = true := by
  revert p q; decide

/-- The word of infinity. -/
theorem pinf : Ideal.ofBits FTy.f32 2139095040#32 = (⊤ : EReal) := by simp [Ideal.ofBits, Ideal.ieee]

/-- A value whose magnitude is below infinity is finite. -/
theorem fin_of (x : Ideal .f32) (h : decide ((FloatOps.absf x : EReal) < Ideal.ofBits FTy.f32 2139095040#32) = true) : x ≠ (⊥ : EReal) ∧ x ≠ (⊤ : EReal) := by
  have h' := of_decide_eq_true h
  rw [pinf] at h'
  constructor
  · rintro rfl
    exact absurd h' (by show ¬ (max (⊥ : EReal) (-⊥) < ⊤); simp)
  · rintro rfl
    exact absurd h' (by show ¬ (max (⊤ : EReal) (-⊤) < ⊤); simp)

/-- The precondition at an entry. -/
theorem fn_at (q k v : FVec Ideal S32768x1024 .bf16) (a b c d : FVec Ideal S64 .f32) (g : FVec Ideal S8x128 .f32) (r : Fin 32768) (l : Fin 1024)
    (h : Cert.Pre_finite.fn (F := Ideal) q k v a b c d g (ix2 r l) = 1#1) :
    (v (ix2 r l) ≠ (⊥ : EReal) ∧ v (ix2 r l) ≠ (⊤ : EReal))
    ∧ lam (fun x => a (ix1 x)) (fun x => b (ix1 x)) (fun x => c (ix1 x)) (fun x => d (ix1 x)) ≠ ⊥ ∧ lam (fun x => a (ix1 x)) (fun x => b (ix1 x)) (fun x => c (ix1 x)) (fun x => d (ix1 x)) ≠ ⊤ := by
  revert h
  unfold Cert.Pre_finite.fn
  pointwise
  intro h
  obtain ⟨h1, h2⟩ := both _ _ h
  exact ⟨fin_of _ h1, fin_of _ h2⟩

end Cert.Pre_finite.Att

end
-- ==== Proof.AlgI.lean ====
/- The kernel over the extended reals returns what the reference does. -/
module

public import proofs.«01_k».proof.Proof.FinI
public import proofs.«01_k».proof.Proof.RefRunI
public import proofs.«01_k».proof.Proof.RefValI
public import proofs.«01_k».proof.Proof.FiniteI

@[expose] public section

set_option maxRecDepth 16384

noncomputable section

namespace Cert.Att

open Idealize.ShloMosaic Idealize.ShloMosaic.TcCoe Idealize.SL.Sem

/-- Where the precondition holds, the reference of the kernel's arguments is the kernel's result array. -/
theorem same (m : (ℓ : Loc Cert.KernelIdeal.nD Cert.KernelIdeal.τ Cert.KernelIdeal.sig) → Buf (Elt Ideal) ℓ) (h : Cert.Pre_KernelIdeal_finite m) (c : Dev Cert.KernelIdeal.nD) :
    Cert.ReferenceIdeal.Att.rOut (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      (m ((c.tc : Thread Cert.KernelIdeal.nD Cert.KernelIdeal.τ).loc Cert.KernelIdeal.main_arg6)) (m ((c.tc : Thread Cert.KernelIdeal.nD Cert.KernelIdeal.τ).loc Cert.KernelIdeal.main_arg7))
      = (Cert.KernelIdeal.Att.dats m 0 c).arrAt (5 : Fin 6) (Cert.KernelIdeal.Att.cfgA (F := Ideal)).N := by
  have hf : ∀ r l, _ := fun r l => Cert.Pre_finite.Att.fn_at _ _ _ _ _ _ _ _ r l (congrFun (h c) (ix2 r l))
  refine Eq.trans ?_ (Cert.KernelIdeal.Att.final5 m c fun r l => (hf r l).1).symm
  funext i
  obtain ⟨r, l, rfl⟩ : ∃ (r : Fin 32768) (l : Fin 1024), i = ix2 r l := ⟨i 0, i 1, eq_ix2 i⟩
  refine (Cert.ReferenceIdeal.Att.rOut_at _ _ _ _ _ _ _ _ (fun i => ?_) (hf r l).2 r l).trans ?_
  · obtain ⟨r, l, rfl⟩ : ∃ (r : Fin 32768) (l : Fin 1024), i = ix2 r l := ⟨i 0, i 1, eq_ix2 i⟩
    exact (hf r l).1
  · rfl

/-- The idealized kernel and the idealized reference return one result. -/
theorem same_result : Cert.algebraic_KernelIdeal_ReferenceIdeal_pre_finite := by
  intro m g m' g' hpre hagree
  refine ⟨fun c => (Cert.KernelIdeal.Att.dats m 0 c).arrAt (5 : Fin 6) (Cert.KernelIdeal.Att.cfgA (F := Ideal)).N, ?_, ?_⟩
  · exact θ_run_mono (Cert.KernelIdeal.Att.run_main m g) fun r hr c => ⟨(hr.1 c).1 (5 : Fin 6), Cert.KernelIdeal.Att.args_keep m r hr.1 c⟩
  · refine θ_run_mono (Cert.ReferenceIdeal.Att.run_ref m' g') fun r hr c => ⟨?_, (hr c).2⟩
    refine (hr c).1.trans ?_
    obtain ⟨e0, e1, e2, e3, e4, e5, e6, e7⟩ := hagree c
    rw [e0, e1, e2, e3, e4, e5, e6, e7]
    exact same m hpre c

end Cert.Att

end
-- ==== Proof.ResI.lean ====
/- The product with the output weights added to the residual stream: the kernel's tiles of 512 rows are the rows of the
   reference's whole product. -/
module

public import proofs.«01_k».proof.Defs
public import proofs.«01_k».proof.Proof.Gen.Kernel2Ideal.Value
public import proofs.«01_k».proof.Proof.Gen.Reference2Ideal.Run
public import Idealize.ShloMosaic.Lib.Pointwise
public import Idealize.ShloMosaic.Lib.Pipeline.ValueKit

@[expose] public section

set_option maxRecDepth 16384

noncomputable section

namespace Cert.Kernel2Ideal.Res

open Idealize.ShloMosaic Idealize.ShloMosaic.TcCoe Idealize.SL.Sem
open Cert.Kernel2Ideal Cert.Kernel2Ideal.Gen

variable (m : (ℓ : Loc nD τ sig) → Buf (Elt Ideal) ℓ)

/-- The residual plus the product, over whole arrays. -/
def sumOf (o : FVec Ideal S32768x1024 .bf16) (w : FVec Ideal S1024x1024 .f32) (h : FVec Ideal S32768x1024 .f32) : FVec Ideal S32768x1024 .f32 :=
  fun i => h i + ∑ k : Fin 1024, (o (ix2 (i 0 : Fin 32768) k) : EReal) * (w (ix2 k (i 1 : Fin 1024)) : EReal)

/-- A tile's entry. -/
theorem pay_at (h : FVec Ideal S512x1024 .f32) (o : FVec Ideal S512x1024 .bf16) (w : FVec Ideal S1024x1024 .bf16) (r : Fin 512) (l : Fin 1024) :
    k0_pay1 h o w (ix2 r l) = h (ix2 r l) + ∑ k : Fin 1024, (o (ix2 r k) : EReal) * (w (ix2 k l) : EReal) := by
  pointwise [k0_pay1]

/-- The weights when the call starts are the argument: a change of format changes no extended real. -/
theorem weights (c : Dev nD) : V m c main_v0 = m ((c : Thread nD τ).loc main_arg1) := by
  unfold V
  after_results
  rfl

/-- The windows' block indices: block row `t`, the one block column; the weights' block is the whole array. -/
theorem idx : ∀ t : Fin grid0.N, win0_0.index t = ![t.val, 0] ∧ win0_1.index t = ![0, 0] ∧ win0_2.index t = ![t.val, 0] ∧ win0_3.index t = ![t.val, 0] := by
  decide +kernel

/-- The rows' block at an entry of the array. -/
theorem rows_at (c : Dev nD) (t : Fin grid0.N) (r : Fin 512) (l : Fin 1024) (i : S32768x1024.Idx) (h0 : (i 0).val = t.val * 512 + r.val) (h1 : (i 1).val = l.val) :
    iblk m c 0 t (ix2 r l : S512x1024.Idx) = m ((c : Thread nD τ).loc main_arg0) i := by
  refine Eq.trans ?_ (congrFun (V_main_arg0 m c) i)
  unfold iblk
  refine congrArg (V m c main_arg0) (funext fun a => Fin.ext ?_)
  refine (Pipeline.Window.rect_emb_val win0_0 t (ix2 r l) a).trans ?_
  rw [(idx t).1]
  match a with
  | ⟨0, _⟩ => exact h0.symm
  | ⟨1, _⟩ => exact (Nat.zero_add _).trans h1.symm

/-- The weights' block is the array. -/
theorem weights_at (c : Dev nD) (t : Fin grid0.N) (k l : Fin 1024) :
    iblk m c 1 t (ix2 k l : S1024x1024.Idx) = m ((c : Thread nD τ).loc main_arg1) (ix2 k l : S1024x1024.Idx) := by
  refine Eq.trans ?_ (congrFun (weights m c) _)
  unfold iblk
  refine congrArg (V m c main_v0) (funext fun a => Fin.ext ?_)
  refine (Pipeline.Window.rect_emb_val win0_1 t (ix2 k l) a).trans ?_
  rw [(idx t).2.1]
  match a with
  | ⟨0, _⟩ => exact Nat.zero_add _
  | ⟨1, _⟩ => exact Nat.zero_add _

/-- The residual's block at an entry of the array. -/
theorem resid_at (c : Dev nD) (t : Fin grid0.N) (r : Fin 512) (l : Fin 1024) (i : S32768x1024.Idx) (h0 : (i 0).val = t.val * 512 + r.val) (h1 : (i 1).val = l.val) :
    iblk m c 2 t (ix2 r l : S512x1024.Idx) = m ((c : Thread nD τ).loc main_arg2) i := by
  refine Eq.trans ?_ (congrFun (V_main_arg2 m c) i)
  unfold iblk
  refine congrArg (V m c main_arg2) (funext fun a => Fin.ext ?_)
  refine (Pipeline.Window.rect_emb_val win0_2 t (ix2 r l) a).trans ?_
  rw [(idx t).2.2.1]
  match a with
  | ⟨0, _⟩ => exact h0.symm
  | ⟨1, _⟩ => exact (Nat.zero_add _).trans h1.symm

/-- The array after the run. -/
theorem final (c : Dev nD) : (dats m 0 c).arrAt 3 cfg0.N
    = sumOf (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  frame_out
  obtain ⟨r, l, rfl⟩ : ∃ (r : Fin 512) (l : Fin 1024), y = (ix2 r l : S512x1024.Idx) := ⟨y 0, y 1, eq_ix2 y⟩
  obtain ⟨i, hi⟩ : ∃ i, i = ((View.whole main_v1).slice (win0_3.rect t)).emb (ix2 r l) := ⟨_, rfl⟩
  have h0 : (i 0).val = t.val * 512 + r.val := by
    rw [hi]
    refine (Pipeline.Window.rect_emb_val win0_3 t (ix2 r l) 0).trans ?_
    rw [(idx t).2.2.2]; rfl
  have h1 : (i 1).val = l.val := by
    rw [hi]
    refine (Pipeline.Window.rect_emb_val win0_3 t (ix2 r l) 1).trans ?_
    rw [(idx t).2.2.2]; exact Nat.zero_add _
  rw [← hi]
  refine (pay_at _ _ _ r l).trans ?_
  unfold sumOf
  refine congrArg₂ (fun x y : EReal => x + y) (resid_at m c t r l i h0 h1) (Finset.sum_congr rfl fun k _ => ?_)
  refine congrArg₂ (fun x y : EReal => x * y) (rows_at m c t r k _ h0 rfl) ((weights_at m c t k l).trans (congrArg _ ?_))
  exact congrArg (ix2 k) (Fin.ext h1.symm)

/-- The reference's result is the same function of its arguments. -/
theorem ref_eq (o : FVec Ideal S32768x1024 .bf16) (w : FVec Ideal S1024x1024 .f32) (h : FVec Ideal S32768x1024 .f32) :
    addf h (Host.dotGeneral Cert.Reference2Ideal.dot_S32768x1024_S1024x1024_S32768x1024_1_0_0_1_n_n none (extf .f32 o Cert.Reference2Ideal.Facts₀.bitsLt_bf16_f32) w) = sumOf o w h := by
  funext i
  obtain ⟨r, l, rfl⟩ : ∃ (r : Fin 32768) (l : Fin 1024), i = ix2 r l := ⟨i 0, i 1, eq_ix2 i⟩
  unfold sumOf
  pointwise

/-- The idealized kernel and the idealized reference return one result. -/
theorem same_result : Cert.algebraic_Kernel2Ideal_Reference2Ideal := by
  intro m g m' g' _ hagree
  refine ⟨fun c => (dats m 0 c).arrAt 3 cfg0.N, Value.run_blocks m g, ?_⟩
  refine θ_run_mono (Cert.Reference2Ideal.Value.run m' g') fun r hr c => ⟨?_, (hr c).2⟩
  obtain ⟨e0, e1, e2⟩ := hagree c
  refine (hr c).1.trans ?_
  rw [e0, e1, e2]
  exact (ref_eq _ _ _).trans (final m c).symm

end Cert.Kernel2Ideal.Res

end
-- ==== Proof.NormI.lean ====
/- The normalized rows and their product with the query weights: the kernel normalizes a block of rows once and keeps it
   while it passes over the weights' two column blocks; the reference does whole arrays. -/
module

public import proofs.«01_k».proof.Defs
public import proofs.«01_k».proof.Proof.Gen.Kernel3Ideal.Value
public import proofs.«01_k».proof.Proof.Gen.Reference3Ideal.Run
public import Idealize.ShloMosaic.Lib.Pointwise
public import Idealize.ShloMosaic.Lib.Pipeline.ValueKit
public import Idealize.ShloMosaic.Lib.Pipeline.ReadBack

@[expose] public section

set_option maxRecDepth 16384

noncomputable section

namespace Cert.Kernel3Ideal.Norm

open Idealize.ShloMosaic Idealize.ShloMosaic.TcCoe Idealize.SL.Sem
open Cert.Kernel3Ideal Cert.Kernel3Ideal.Gen

/-- An array's entry at an index known by its two numbers. -/
theorem entry {A B : Nat} {α : Type} (f : (⟨2, ![A, B]⟩ : Shape).Idx → α) (e : (⟨2, ![A, B]⟩ : Shape).Idx) (i : Fin A) (j : Fin B)
    (h0 : (e 0).val = i.val) (h1 : (e 1).val = j.val) : f e = f (ix2 i j) :=
  congrArg f (funext fun a => match a with
    | ⟨0, _⟩ => Fin.ext h0
    | ⟨1, _⟩ => Fin.ext h1)

/-- The gains in one row. -/
theorem gain_row (g : FVec Ideal S1024 .f32) (l : Fin 1024) : shapeCast S1x1024 g shapeCasts_S1024_S1x1024 (ix2 0 l) = g (ix1 l) := by
  pointwise

variable (m : (ℓ : Loc nD τ sig) → Buf (Elt Ideal) ℓ)

/-- A row times the inverse root of its mean square, times the gains. -/
def nrm (x g : Fin 1024 → EReal) (l : Fin 1024) : EReal :=
  x l * Ideal.rsqrt (Ideal.div (∑ k, x k * x k) (Ideal.ofBits FTy.f32 0x44800000#32) + Ideal.ofBits FTy.f32 0x358637BD#32) * g l

/-- The normalized rows of an array. -/
def rowsOf (h : FVec Ideal S32768x1024 .f32) (g : FVec Ideal S1024 .f32) : FVec Ideal S32768x1024 .bf16 :=
  fun i => nrm (fun k => h (ix2 (i 0 : Fin 32768) k)) (fun k => g (ix1 k)) (i 1 : Fin 1024)

/-- The normalized rows times the weights. -/
def prodOf (h : FVec Ideal S32768x1024 .f32) (g : FVec Ideal S1024 .f32) (w : FVec Ideal S1024x2048 .f32) : FVec Ideal S32768x2048 .f32 :=
  fun i => ∑ k : Fin 1024, (rowsOf h g (ix2 (i 0 : Fin 32768) k) : EReal) * (w (ix2 k (i 1 : Fin 2048)) : EReal)

/-- A normalized entry of a block. -/
theorem pay1_at (x : FVec Ideal S512x1024 .f32) (g : FVec Ideal S1x1024 .f32) (r : Fin 512) (l : Fin 1024) :
    k0_pay1 (F := Ideal) x g (ix2 r l) = nrm (fun k => x (ix2 r k)) (fun k => g (ix2 0 k)) l := by
  pointwise [k0_pay1]
  rfl

/-- A tile's entry. -/
theorem pay2_at (x : FVec Ideal S512x1024 .bf16) (w : FVec Ideal S1024x1024 .bf16) (r : Fin 512) (l : Fin 1024) :
    k0_pay2 (F := Ideal) x w (ix2 r l) = ∑ k : Fin 1024, (x (ix2 r k) : EReal) * (w (ix2 k l) : EReal) := by
  pointwise [k0_pay2]

/-- The weights when the call starts are the argument. -/
theorem weights (c : Dev nD) : V m c main_v0 = m ((c : Thread nD τ).loc main_arg2) := by
  unfold V
  after_results
  rfl

/-- The gains when the call starts, in one row. -/
theorem gains (c : Dev nD) : V m c main_v1 = shapeCast S1x1024 (m ((c : Thread nD τ).loc main_arg1)) shapeCasts_S1024_S1x1024 := by
  unfold V
  after_results
  rfl

/-- The windows' block indices at a point: block row `t / 2`, block column `t % 2`. -/
theorem idx : ∀ t : Fin grid0.N, win0_0.index t = ![t.val / 2, 0] ∧ win0_1.index t = ![0, 0] ∧ win0_2.index t = ![0, t.val % 2]
    ∧ win0_3.index t = ![t.val / 2, t.val % 2] ∧ win0_4.index t = ![t.val / 2, 0] := by
  decide +kernel

/-- The rows' block at an entry of the array. -/
theorem rows_at (c : Dev nD) (t : Fin grid0.N) (r : Fin 512) (l : Fin 1024) (i : S32768x1024.Idx) (h0 : (i 0).val = t.val / 2 * 512 + r.val) (h1 : (i 1).val = l.val) :
    iblk m c 0 t (ix2 r l : S512x1024.Idx) = m ((c : Thread nD τ).loc main_arg0) i := by
  have e := Pipeline.Window.rect_emb_val win0_0 t (ix2 r l : S512x1024.Idx)
  rw [(idx t).1] at e
  rw [eq_ix2 i]
  exact (entry (V m c main_arg0) _ (i 0) (i 1) ((e 0).trans h0.symm) ((e 1).trans ((Nat.zero_add _).trans h1.symm))).trans (congrFun (V_main_arg0 m c) _)

/-- The gains' block is the gains. -/
theorem gains_at (c : Dev nD) (t : Fin grid0.N) (l : Fin 1024) :
    iblk m c 1 t (ix2 0 l : S1x1024.Idx) = m ((c : Thread nD τ).loc main_arg1) (ix1 l : S1024.Idx) := by
  have e := Pipeline.Window.rect_emb_val win0_1 t (ix2 0 l : S1x1024.Idx)
  rw [(idx t).2.1] at e
  exact (entry (V m c main_v1) _ 0 l (e 0) ((e 1).trans (Nat.zero_add _))).trans ((congrFun (gains m c) _).trans (gain_row _ l))

/-- The weights' block at an entry of the array. -/
theorem weights_at (c : Dev nD) (t : Fin grid0.N) (k l : Fin 1024) (i : S1024x2048.Idx) (h0 : (i 0).val = k.val) (h1 : (i 1).val = t.val % 2 * 1024 + l.val) :
    iblk m c 2 t (ix2 k l : S1024x1024.Idx) = m ((c : Thread nD τ).loc main_arg2) i := by
  have e := Pipeline.Window.rect_emb_val win0_2 t (ix2 k l : S1024x1024.Idx)
  rw [(idx t).2.2.1] at e
  rw [eq_ix2 i]
  exact (entry (V m c main_v0) _ (i 0) (i 1) ((e 0).trans ((Nat.zero_add _).trans h0.symm)) ((e 1).trans h1.symm)).trans (congrFun (weights m c) _)

/-- A normalized entry of a point's block is that of the array's row. -/
theorem block_at (c : Dev nD) (t : Fin grid0.N) (r : Fin 512) (l : Fin 1024) (i : S32768x1024.Idx) (h0 : (i 0).val = t.val / 2 * 512 + r.val) (h1 : (i 1).val = l.val) :
    k0_pay1 (iblk m c 0 t) (iblk m c 1 t) (ix2 r l) = rowsOf (m ((c : Thread nD τ).loc main_arg0)) (m ((c : Thread nD τ).loc main_arg1)) i := by
  refine (pay1_at _ _ r l).trans ?_
  unfold rowsOf
  have e0 : (fun k => iblk m c 0 t (ix2 r k : S512x1024.Idx)) = fun k => m ((c : Thread nD τ).loc main_arg0) (ix2 (i 0 : Fin 32768) k : S32768x1024.Idx) :=
    funext fun k => rows_at m c t r k _ h0 rfl
  have e1 : (fun k => iblk m c 1 t (ix2 0 k : S1x1024.Idx)) = fun k => m ((c : Thread nD τ).loc main_arg1) (ix1 k : S1024.Idx) :=
    funext fun k => gains_at m c t k
  refine (congrArg₂ (fun a b => nrm a b l) e0 e1).trans ?_
  exact congrArg _ (Fin.ext h1.symm)

/-- What the carried block holds after a point that starts a block row: its normalized rows. -/
theorem started (c : Dev nD) (t : Fin grid0.N) (h : t.val % 2 = 0) (r : Fin 512) (l : Fin 1024) (i : S32768x1024.Idx) (h0 : (i 0).val = t.val / 2 * 512 + r.val) (h1 : (i 1).val = l.val) :
    (outsAt0 m c t.val t.isLt).2.2 (ix2 r l) = rowsOf (m ((c : Thread nD τ).loc main_arg0)) (m ((c : Thread nD τ).loc main_arg1)) i := by
  rw [outsAt0_A m c t h]
  frame_out
  exact block_at m c t r l i h0 h1

/-- At a point that starts no block row the point before started it. -/
theorem before (c : Dev nD) (t : Fin grid0.N) (h : ¬ t.val % 2 = 0) (r : Fin 512) (l : Fin 1024) (i : S32768x1024.Idx) (h0 : (i 0).val = t.val / 2 * 512 + r.val) (h1 : (i 1).val = l.val) :
    (outsAt0 m c (t.val - 1) (Nat.lt_of_le_of_lt (Nat.sub_le _ _) t.isLt)).2.2 (ix2 r l) = rowsOf (m ((c : Thread nD τ).loc main_arg0)) (m ((c : Thread nD τ).loc main_arg1)) i :=
  started m c ⟨t.val - 1, Nat.lt_of_le_of_lt (Nat.sub_le _ _) t.isLt⟩ (by show (t.val - 1) % 2 = 0; omega) r l i (by show (i 0).val = (t.val - 1) / 2 * 512 + r.val; omega) h1

/-- The rows that a point stores. -/
theorem rows_out (c : Dev nD) (t : Fin grid0.N) (r : Fin 512) (l : Fin 1024) (i : S32768x1024.Idx) (h0 : (i 0).val = t.val / 2 * 512 + r.val) (h1 : (i 1).val = l.val) :
    (outsAt0 m c t.val t.isLt).2.1 (ix2 r l) = rowsOf (m ((c : Thread nD τ).loc main_arg0)) (m ((c : Thread nD τ).loc main_arg1)) i := by
  by_cases h : t.val % 2 = 0
  · rw [outsAt0_A m c t h]
    frame_out
    exact block_at m c t r l i h0 h1
  · rw [outsAt0_B m c t h]
    frame_out
    exact (congrFun (read_unread_whole cc0_scratch0 _ _) _).trans (before m c t h r l i h0 h1)

/-- The tile that a point stores, where its rows are known. -/
theorem tile (c : Dev nD) (t : Fin grid0.N) (x : FVec Ideal S512x1024 .bf16) (r : Fin 512) (l : Fin 1024) (i : S32768x2048.Idx)
    (h0 : (i 0).val = t.val / 2 * 512 + r.val) (h1 : (i 1).val = t.val % 2 * 1024 + l.val)
    (hx : ∀ k, x (ix2 r k) = rowsOf (m ((c : Thread nD τ).loc main_arg0)) (m ((c : Thread nD τ).loc main_arg1)) (ix2 (i 0 : Fin 32768) k)) :
    k0_pay2 x (iblk m c 2 t) (ix2 r l) = prodOf (m ((c : Thread nD τ).loc main_arg0)) (m ((c : Thread nD τ).loc main_arg1)) (m ((c : Thread nD τ).loc main_arg2)) i := by
  refine (pay2_at _ _ r l).trans ?_
  unfold prodOf
  exact Finset.sum_congr rfl fun k _ => congrArg₂ (fun x y : EReal => x * y) (hx k) (weights_at m c t k l _ rfl h1)

/-- The tile that a point stores. -/
theorem tile_out (c : Dev nD) (t : Fin grid0.N) (r : Fin 512) (l : Fin 1024) (i : S32768x2048.Idx)
    (h0 : (i 0).val = t.val / 2 * 512 + r.val) (h1 : (i 1).val = t.val % 2 * 1024 + l.val) :
    (outsAt0 m c t.val t.isLt).1 (ix2 r l) = prodOf (m ((c : Thread nD τ).loc main_arg0)) (m ((c : Thread nD τ).loc main_arg1)) (m ((c : Thread nD τ).loc main_arg2)) i := by
  by_cases h : t.val % 2 = 0
  · rw [outsAt0_A m c t h]
    frame_out
    exact tile m c t _ r l i h0 h1 fun k => block_at m c t r k _ h0 rfl
  · rw [outsAt0_B m c t h]
    frame_out
    exact tile m c t _ r l i h0 h1 fun k => (congrFun (read_unread_whole cc0_scratch0 _ _) _).trans (before m c t h r k (ix2 (i 0 : Fin 32768) k) h0 rfl)

/-- The products after the run. -/
theorem final3 (c : Dev nD) : (dats m 0 c).arrAt 3 cfg0.N
    = prodOf (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  obtain ⟨r, l, rfl⟩ : ∃ (r : Fin 512) (l : Fin 1024), y = (ix2 r l : S512x1024.Idx) := ⟨y 0, y 1, eq_ix2 y⟩
  refine tile_out m c t r l _ ?_ ?_
  · refine (Pipeline.Window.rect_emb_val win0_3 t (ix2 r l) 0).trans ?_
    rw [(idx t).2.2.2.1]; rfl
  · refine (Pipeline.Window.rect_emb_val win0_3 t (ix2 r l) 1).trans ?_
    rw [(idx t).2.2.2.1]; rfl

/-- The normalized rows after the run. -/
theorem final4 (c : Dev nD) : (dats m 0 c).arrAt 4 cfg0.N
    = rowsOf (m ((c : Thread nD τ).loc main_arg0)) (m ((c : Thread nD τ).loc main_arg1)) := by
  refine (dats m 0 c).arrAt_eq_of_covers 4 _ (by decide +kernel) fun t hf y => ?_
  blk_simp
  rw [after0_4]
  obtain ⟨r, l, rfl⟩ : ∃ (r : Fin 512) (l : Fin 1024), y = (ix2 r l : S512x1024.Idx) := ⟨y 0, y 1, eq_ix2 y⟩
  refine rows_out m c t r l _ ?_ ?_
  · refine (Pipeline.Window.rect_emb_val win0_4 t (ix2 r l) 0).trans ?_
    rw [(idx t).2.2.2.2]; rfl
  · refine (Pipeline.Window.rect_emb_val win0_4 t (ix2 r l) 1).trans ?_
    rw [(idx t).2.2.2.2]; exact Nat.zero_add _

/-- The reference's normalized rows, as its operations write them. -/
def refRows (h : FVec Ideal S32768x1024 .f32) (g : FVec Ideal S1024 .f32) : FVec Ideal S32768x1024 .f32 :=
  mulf (mulf h (broadcastInDim Cert.Reference3Ideal.S32768x1024 ![0, 1] Cert.Reference3Ideal.Facts₀.bcast_S32768x1_S32768x1024_0_1
      (Host.rsqrt (addf (Host.divf (broadcastInDim Cert.Reference3Ideal.S32768x1 ![0] Cert.Reference3Ideal.Facts₀.bcast_S32768_S32768x1_0
        (Host.reduceAdd (mulf h h) (constant Cert.Reference3Ideal.S_ .f32 0x00000000#32) Cert.Reference3Ideal.Facts₀.reducesTo_S32768x1024_S32768_d1 Cert.Reference3Ideal.Facts₀.h_S_))
        (broadcastInDim Cert.Reference3Ideal.S32768x1 ![] Cert.Reference3Ideal.Facts₀.bcast_S_S32768x1 (constant Cert.Reference3Ideal.S_ .f32 0x44800000#32)))
        (broadcastInDim Cert.Reference3Ideal.S32768x1 ![] Cert.Reference3Ideal.Facts₀.bcast_S_S32768x1 (constant Cert.Reference3Ideal.S_ .f32 0x358637BD#32))))))
    (broadcastInDim Cert.Reference3Ideal.S32768x1024 ![0, 1] Cert.Reference3Ideal.Facts₀.bcast_S1x1024_S32768x1024_0_1
      (broadcastInDim Cert.Reference3Ideal.S1x1024 ![1] Cert.Reference3Ideal.Facts₀.bcast_S1024_S1x1024_1 g))

/-- The reference's normalized rows. -/
theorem refRows_eq (h : FVec Ideal S32768x1024 .f32) (g : FVec Ideal S1024 .f32) : refRows h g = rowsOf h g := by
  funext i
  obtain ⟨r, l, rfl⟩ : ∃ (r : Fin 32768) (l : Fin 1024), i = ix2 r l := ⟨i 0, i 1, eq_ix2 i⟩
  unfold refRows rowsOf nrm
  pointwise

/-- The reference's product. -/
theorem refProd_eq (h : FVec Ideal S32768x1024 .f32) (g : FVec Ideal S1024 .f32) (w : FVec Ideal S1024x2048 .f32) :
    Host.dotGeneral Cert.Reference3Ideal.dot_S32768x1024_S1024x2048_S32768x2048_1_0_0_1_n_n none (refRows h g) w = prodOf h g w := by
  rw [refRows_eq]
  funext i
  obtain ⟨r, l, rfl⟩ : ∃ (r : Fin 32768) (l : Fin 2048), i = ix2 r l := ⟨i 0, i 1, eq_ix2 i⟩
  unfold prodOf
  generalize rowsOf h g = x
  pointwise

/-- The idealized kernel and the idealized reference return one pair of results. -/
theorem same_result : Cert.algebraic_Kernel3Ideal_Reference3Ideal := by
  intro m g m' g' _ hagree
  refine ⟨fun c => (dats m 0 c).arrAt 3 cfg0.N, fun c => (dats m 0 c).arrAt 4 cfg0.N, Value.run_blocks m g, ?_⟩
  refine θ_run_mono (Cert.Reference3Ideal.Value.run m' g') fun r hr c => ⟨?_, ?_, (hr c).2.2⟩
  · obtain ⟨e0, e1, e2⟩ := hagree c
    refine (hr c).1.trans ?_
    rw [e0, e1, e2]
    exact (refProd_eq _ _ _).trans (final3 m c).symm
  · obtain ⟨e0, e1, e2⟩ := hagree c
    refine (hr c).2.1.trans ?_
    rw [e0, e1]
    exact (refRows_eq _ _).trans (final4 m c).symm

end Cert.Kernel3Ideal.Norm

end
-- ==== Proof.RowsI.lean ====
/- What the three calls that normalize rows share: a block of normalized rows, carried over the column blocks, and a
   product with it. -/
module

public import proofs.«01_k».proof.Proof.NormI

@[expose] public section

set_option maxRecDepth 16384

noncomputable section

namespace Cert.Rows

open Idealize.ShloMosaic
open Cert.Kernel3Ideal Cert.Kernel3Ideal.Gen Cert.Kernel3Ideal.Norm

/-- A block holds the normalized rows of block row `b`. -/
def IsRows (H : FVec Ideal S32768x1024 .f32) (G : FVec Ideal S1024 .f32) (b : Nat) (x : FVec Ideal S512x1024 .bf16) : Prop :=
  ∀ (r : Fin 512) (l : Fin 1024) (i : Fin 32768), i.val = b * 512 + r.val → x (ix2 r l) = rowsOf H G (ix2 i l)

/-- The kernel's normalization of a block row makes it. -/
theorem isRows_pay1 (H : FVec Ideal S32768x1024 .f32) (G : FVec Ideal S1024 .f32) (b : Nat) (x : FVec Ideal S512x1024 .f32) (g : FVec Ideal S1x1024 .f32)
    (hx : ∀ (r : Fin 512) (l : Fin 1024) (i : Fin 32768), i.val = b * 512 + r.val → x (ix2 r l) = H (ix2 i l))
    (hg : ∀ k : Fin 1024, g (ix2 0 k) = G (ix1 k)) : IsRows H G b (k0_pay1 (F := Ideal) x g) := fun r l i h0 => by
  refine (pay1_at _ _ r l).trans ?_
  unfold rowsOf
  exact congrArg₂ (fun a b => nrm a b l) (funext fun k => hx r k i h0) (funext hg)

/-- Such a block times a column. -/
theorem sum_rows {H : FVec Ideal S32768x1024 .f32} {G : FVec Ideal S1024 .f32} {b : Nat} {x : FVec Ideal S512x1024 .bf16} (hx : IsRows H G b x)
    (r : Fin 512) (i : Fin 32768) (h0 : i.val = b * 512 + r.val) (w w' : Fin 1024 → EReal) (hw : ∀ k, w k = w' k) :
    ∑ k, (x (ix2 r k) : EReal) * w k = ∑ k, (rowsOf H G (ix2 i k) : EReal) * w' k :=
  Finset.sum_congr rfl fun k _ => congrArg₂ (fun x y : EReal => x * y) (hx r k i h0) (hw k)

/-- What is set at every `k`-th point and kept at the others depends on the number of times it was set. -/
theorem carry {α : Type} {N k : Nat} (S : (n : Nat) → n < N → α) (P : Nat → α → Prop) (hset : ∀ n h, n % k = 0 → P (n / k) (S n h))
    (hkeep : ∀ n h, ¬ n % k = 0 → S n h = S (n - 1) (Nat.lt_of_le_of_lt (Nat.sub_le _ _) h)) : ∀ n h, P (n / k) (S n h) := by
  intro n
  induction n with
  | zero => exact fun h => hset 0 h (Nat.zero_mod k)
  | succ n ih =>
    intro h
    by_cases h0 : (n + 1) % k = 0
    · exact hset _ h h0
    · rw [hkeep _ h h0, Nat.succ_div, if_neg fun hd => h0 (Nat.mod_eq_zero_of_dvd hd)]
      exact ih _

end Cert.Rows

end
-- ==== Proof.InI.lean ====
/- The attention's input product: the kernel normalizes a block of rows once and multiplies it with the weights' three
   column blocks; the reference multiplies whole arrays. -/
module

public import proofs.«01_k».proof.Defs
public import proofs.«01_k».proof.Proof.Gen.Kernel4Ideal.Value
public import proofs.«01_k».proof.Proof.Gen.Reference4Ideal.Run
public import proofs.«01_k».proof.Proof.RowsI

@[expose] public section

set_option maxRecDepth 16384

noncomputable section

namespace Cert.Kernel4Ideal.In

open Idealize.ShloMosaic Idealize.ShloMosaic.TcCoe Idealize.SL.Sem
open Cert.Kernel4Ideal Cert.Kernel4Ideal.Gen Cert.Rows
open Cert.Kernel3Ideal.Norm (rowsOf refRows refRows_eq entry gain_row)

variable (m : (ℓ : Loc nD τ sig) → Buf (Elt Ideal) ℓ)

/-- The normalized rows times the weights. -/
def prodOf (h : FVec Ideal S32768x1024 .f32) (g : FVec Ideal S1024 .f32) (w : FVec Ideal S1024x3072 .f32) : FVec Ideal S32768x3072 .f32 :=
  fun i => ∑ k : Fin 1024, (rowsOf h g (ix2 (i 0 : Fin 32768) k) : EReal) * (w (ix2 k (i 1 : Fin 3072)) : EReal)

/-- The windows' block indices at a point: block row `t / 3`, block column `t % 3`. -/
theorem idx : ∀ t : Fin grid0.N, win0_0.index t = ![t.val / 3, 0] ∧ win0_1.index t = ![0, 0] ∧ win0_2.index t = ![0, t.val % 3]
    ∧ win0_3.index t = ![t.val / 3, t.val % 3] := by
  decide +kernel

/-- The weights when the call starts are the argument. -/
theorem weights (c : Dev nD) : V m c main_v0 = m ((c : Thread nD τ).loc main_arg2) := by
  unfold V
  after_results
  rfl

/-- The gains when the call starts, in one row. -/
theorem gains (c : Dev nD) : V m c main_v1 = shapeCast S1x1024 (m ((c : Thread nD τ).loc main_arg1)) shapeCasts_S1024_S1x1024 := by
  unfold V
  after_results
  rfl

/-- The rows' block at a point. -/
theorem rows_at (c : Dev nD) (t : Fin grid0.N) (r : Fin 512) (l : Fin 1024) (i : Fin 32768) (h0 : i.val = t.val / 3 * 512 + r.val) :
    iblk m c 0 t (ix2 r l : S512x1024.Idx) = m ((c : Thread nD τ).loc main_arg0) (ix2 i l : S32768x1024.Idx) := by
  have e := Pipeline.Window.rect_emb_val win0_0 t (ix2 r l : S512x1024.Idx)
  rw [(idx t).1] at e
  exact (entry (V m c main_arg0) _ i l ((e 0).trans h0.symm) ((e 1).trans (Nat.zero_add _))).trans (congrFun (V_main_arg0 m c) _)

/-- The gains' block is the gains. -/
theorem gains_at (c : Dev nD) (t : Fin grid0.N) (l : Fin 1024) :
    iblk m c 1 t (ix2 0 l : S1x1024.Idx) = m ((c : Thread nD τ).loc main_arg1) (ix1 l : S1024.Idx) := by
  have e := Pipeline.Window.rect_emb_val win0_1 t (ix2 0 l : S1x1024.Idx)
  rw [(idx t).2.1] at e
  exact (entry (V m c main_v1) _ 0 l (e 0) ((e 1).trans (Nat.zero_add _))).trans ((congrFun (gains m c) _).trans (gain_row _ l))

/-- The weights' block at a point. -/
theorem weights_at (c : Dev nD) (t : Fin grid0.N) (k l : Fin 1024) (j : Fin 3072) (h1 : j.val = t.val % 3 * 1024 + l.val) :
    iblk m c 2 t (ix2 k l : S1024x1024.Idx) = m ((c : Thread nD τ).loc main_arg2) (ix2 k j : S1024x3072.Idx) := by
  have e := Pipeline.Window.rect_emb_val win0_2 t (ix2 k l : S1024x1024.Idx)
  rw [(idx t).2.2.1] at e
  exact (entry (V m c main_v0) _ k j ((e 0).trans (Nat.zero_add _)) ((e 1).trans h1.symm)).trans (congrFun (weights m c) _)

/-- The block that a point normalizes, or would. -/
theorem fresh (c : Dev nD) (t : Fin grid0.N) :
    IsRows (m ((c : Thread nD τ).loc main_arg0)) (m ((c : Thread nD τ).loc main_arg1)) (t.val / 3) (k0_pay1 (iblk m c 0 t) (iblk m c 1 t)) :=
  isRows_pay1 _ _ _ _ _ (fun r l i h0 => rows_at m c t r l i h0) fun k => gains_at m c t k

/-- The carried block holds the normalized rows of the point's block row. -/
theorem carried (c : Dev nD) : ∀ (n : ℕ) (h : n < grid0.N),
    IsRows (m ((c : Thread nD τ).loc main_arg0)) (m ((c : Thread nD τ).loc main_arg1)) (n / 3) (outsAt0 m c n h).2 := by
  refine carry (fun n h => (outsAt0 m c n h).2) _ (fun n h h0 => ?_) fun n h h0 => ?_
  · have e := outsAt0_A m c ⟨n, h⟩ h0
    dsimp only at e ⊢
    rw [e]
    frame_out
    exact fresh m c ⟨n, h⟩
  · have e := outsAt0_B m c ⟨n, h⟩ h0
    dsimp only at e ⊢
    rw [e]
    rfl

/-- A tile's entry, from a block of normalized rows. -/
theorem tile (c : Dev nD) (t : Fin grid0.N) (x : FVec Ideal S512x1024 .bf16) (hx : IsRows (m ((c : Thread nD τ).loc main_arg0)) (m ((c : Thread nD τ).loc main_arg1)) (t.val / 3) x)
    (r : Fin 512) (l : Fin 1024) (i : S32768x3072.Idx) (h0 : (i 0).val = t.val / 3 * 512 + r.val) (h1 : (i 1).val = t.val % 3 * 1024 + l.val) :
    k0_pay2 x (iblk m c 2 t) (ix2 r l) = prodOf (m ((c : Thread nD τ).loc main_arg0)) (m ((c : Thread nD τ).loc main_arg1)) (m ((c : Thread nD τ).loc main_arg2)) i :=
  (Cert.Kernel3Ideal.Norm.pay2_at _ _ r l).trans (sum_rows hx r (i 0) h0 _ _ fun k => weights_at m c t k l (i 1) h1)

/-- The product after the run. -/
theorem final (c : Dev nD) : (dats m 0 c).arrAt 3 cfg0.N
    = prodOf (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  obtain ⟨r, l, rfl⟩ : ∃ (r : Fin 512) (l : Fin 1024), y = (ix2 r l : S512x1024.Idx) := ⟨y 0, y 1, eq_ix2 y⟩
  have h0 := (Pipeline.Window.rect_emb_val win0_3 t (ix2 r l) 0)
  have h1 := (Pipeline.Window.rect_emb_val win0_3 t (ix2 r l) 1)
  rw [(idx t).2.2.2] at h0 h1
  by_cases h : t.val % 3 = 0
  · rw [outsAt0_A m c t h]
    frame_out
    exact tile m c t _ (fresh m c t) r l _ h0 h1
  · have hb := carried m c (t.val - 1) (Nat.lt_of_le_of_lt (Nat.sub_le _ _) t.isLt)
    rw [show (t.val - 1) / 3 = t.val / 3 by omega] at hb
    rw [outsAt0_B m c t h]
    frame_out
    rw [read_unread_whole]
    exact tile m c t _ hb r l _ h0 h1

/-- The reference's product. -/
theorem refProd_eq (h : FVec Ideal S32768x1024 .f32) (g : FVec Ideal S1024 .f32) (w : FVec Ideal S1024x3072 .f32) :
    Host.dotGeneral Cert.Reference4Ideal.dot_S32768x1024_S1024x3072_S32768x3072_1_0_0_1_n_n none (refRows h g) w = prodOf h g w := by
  rw [refRows_eq]
  funext i
  obtain ⟨r, l, rfl⟩ : ∃ (r : Fin 32768) (l : Fin 3072), i = ix2 r l := ⟨i 0, i 1, eq_ix2 i⟩
  unfold prodOf
  generalize rowsOf h g = x
  pointwise

/-- The idealized kernel and the idealized reference return one result. -/
theorem same_result : Cert.algebraic_Kernel4Ideal_Reference4Ideal := by
  intro m g m' g' _ hagree
  refine ⟨fun c => (dats m 0 c).arrAt 3 cfg0.N, Value.run_blocks m g, ?_⟩
  refine θ_run_mono (Cert.Reference4Ideal.Value.run m' g') fun r hr c => ⟨?_, (hr c).2⟩
  obtain ⟨e0, e1, e2⟩ := hagree c
  refine (hr c).1.trans ?_
  rw [e0, e1, e2]
  exact (refProd_eq _ _ _).trans (final m c).symm

end Cert.Kernel4Ideal.In

end
-- ==== Proof.PadI.lean ====
/- The recurrence's input product: the kernel widens the weights with zero columns, normalizes a block of rows once and
   multiplies it with the weights' five column blocks; the reference multiplies whole arrays and widens the product. -/
module

public import proofs.«01_k».proof.Defs
public import proofs.«01_k».proof.Proof.Gen.Kernel5Ideal.Value
public import proofs.«01_k».proof.Proof.Gen.Reference5Ideal.Run
public import proofs.«01_k».proof.Proof.RowsI
public import Idealize.ShloMosaic.Lib.KernelVsHost

@[expose] public section

set_option maxRecDepth 16384

noncomputable section

namespace Cert.Kernel5Ideal.Pad

open Idealize.ShloMosaic Idealize.ShloMosaic.TcCoe Idealize.SL.Sem
open Cert.Kernel5Ideal Cert.Kernel5Ideal.Gen Cert.Rows
open Cert.Kernel3Ideal.Norm (rowsOf refRows refRows_eq entry gain_row)

variable (m : (ℓ : Loc nD τ sig) → Buf (Elt Ideal) ℓ)

/-- The normalized rows times the weights. -/
def prodOf (h : FVec Ideal S32768x1024 .f32) (g : FVec Ideal S1024 .f32) (w : FVec Ideal S1024x3200 .f32) : FVec Ideal S32768x3200 .f32 :=
  fun i => ∑ k : Fin 1024, (rowsOf h g (ix2 (i 0 : Fin 32768) k) : EReal) * (w (ix2 k (i 1 : Fin 3200)) : EReal)

/-- The windows' block indices at a point: block row `t / 5`, block column `t % 5`. -/
theorem idx : ∀ t : Fin grid0.N, win0_0.index t = ![t.val / 5, 0] ∧ win0_1.index t = ![0, 0] ∧ win0_2.index t = ![0, t.val % 5]
    ∧ win0_3.index t = ![t.val / 5, t.val % 5] := by
  decide +kernel

/-- The weights widened with zero columns. -/
def wide (w : FVec Ideal S1024x3088 .f32) : FVec Ideal S1024x3200 .f32 :=
  pad S1024x3200 ![0, 0] ![0, 112] ![0, 0] w (sitofp (F := Ideal) .f32 (constantI S_ 32 0#32)) Gen.pads_S1024x3088_S1024x3200_000_01120 Gen.h_S_

/-- A column of the weights. -/
theorem wide_in (w : FVec Ideal S1024x3088 .f32) (k : Fin 1024) (l : Fin 3200) (hl : l.val < 3088) : wide w (ix2 k l) = w (ix2 k ⟨l.val, hl⟩) := by
  refine pad_apply_of_inside _ _ _ _ _ _ _ _ (ix2 k ⟨l.val, hl⟩ : S1024x3088.Idx) fun a => ?_
  match a with
  | ⟨0, _⟩ => show k.val = 0 + k.val * 1; omega
  | ⟨1, _⟩ => show l.val = 0 + l.val * 1; omega

/-- An added column. -/
theorem wide_out (w : FVec Ideal S1024x3088 .f32) (k : Fin 1024) (l : Fin 3200) (hl : ¬ l.val < 3088) : (wide w (ix2 k l) : EReal) = 0 := by
  refine (pad_apply_of_not_inside _ _ _ _ _ _ _ _ 1 fun hin => hl ?_).trans sitofp_zero
  have h2 := hin.2.2
  change (l.val - 0) / 1 < 3088 at h2
  omega

/-- A tile's entry. -/
theorem pay2_at (x : FVec Ideal S512x1024 .bf16) (w : FVec Ideal S1024x640 .bf16) (r : Fin 512) (l : Fin 640) :
    k0_pay2 (F := Ideal) x w (ix2 r l) = ∑ k : Fin 1024, (x (ix2 r k) : EReal) * (w (ix2 k l) : EReal) := by
  pointwise [k0_pay2]

/-- The weights when the call starts are the argument, widened. -/
theorem weights (c : Dev nD) : V m c main_v1 = wide (m ((c : Thread nD τ).loc main_arg2)) := by
  unfold V
  simp only [hostOps0, hostOps0_1, hostOps0_2, List.flatten_cons, List.flatten_nil, List.cons_append, List.nil_append, StableHlo.TRef.binary,
    StableHlo.TRef.unary, StableHlo.TRef.toBuf, StableHlo.TRef.ofBuf, cast_eq]
  after_results
  rfl

/-- The gains when the call starts, in one row. -/
theorem gains (c : Dev nD) : V m c main_v2 = shapeCast S1x1024 (m ((c : Thread nD τ).loc main_arg1)) shapeCasts_S1024_S1x1024 := by
  unfold V
  simp only [hostOps0, hostOps0_1, hostOps0_2, List.flatten_cons, List.flatten_nil, List.cons_append, List.nil_append, StableHlo.TRef.binary,
    StableHlo.TRef.unary, StableHlo.TRef.toBuf, StableHlo.TRef.ofBuf, cast_eq]
  after_results
  rfl

/-- The rows' block at a point. -/
theorem rows_at (c : Dev nD) (t : Fin grid0.N) (r : Fin 512) (l : Fin 1024) (i : Fin 32768) (h0 : i.val = t.val / 5 * 512 + r.val) :
    iblk m c 0 t (ix2 r l : S512x1024.Idx) = m ((c : Thread nD τ).loc main_arg0) (ix2 i l : S32768x1024.Idx) := by
  have e := Pipeline.Window.rect_emb_val win0_0 t (ix2 r l : S512x1024.Idx)
  rw [(idx t).1] at e
  exact (entry (V m c main_arg0) _ i l ((e 0).trans h0.symm) ((e 1).trans (Nat.zero_add _))).trans (congrFun (V_main_arg0 m c) _)

/-- The gains' block is the gains. -/
theorem gains_at (c : Dev nD) (t : Fin grid0.N) (l : Fin 1024) :
    iblk m c 1 t (ix2 0 l : S1x1024.Idx) = m ((c : Thread nD τ).loc main_arg1) (ix1 l : S1024.Idx) := by
  have e := Pipeline.Window.rect_emb_val win0_1 t (ix2 0 l : S1x1024.Idx)
  rw [(idx t).2.1] at e
  exact (entry (V m c main_v2) _ 0 l (e 0) ((e 1).trans (Nat.zero_add _))).trans ((congrFun (gains m c) _).trans (gain_row _ l))

/-- The weights' block at a point. -/
theorem weights_at (c : Dev nD) (t : Fin grid0.N) (k : Fin 1024) (l : Fin 640) (j : Fin 3200) (h1 : j.val = t.val % 5 * 640 + l.val) :
    iblk m c 2 t (ix2 k l : S1024x640.Idx) = wide (m ((c : Thread nD τ).loc main_arg2)) (ix2 k j : S1024x3200.Idx) := by
  have e := Pipeline.Window.rect_emb_val win0_2 t (ix2 k l : S1024x640.Idx)
  rw [(idx t).2.2.1] at e
  exact (entry (V m c main_v1) _ k j ((e 0).trans (Nat.zero_add _)) ((e 1).trans h1.symm)).trans (congrFun (weights m c) _)

/-- The block that a point normalizes, or would. -/
theorem fresh (c : Dev nD) (t : Fin grid0.N) :
    IsRows (m ((c : Thread nD τ).loc main_arg0)) (m ((c : Thread nD τ).loc main_arg1)) (t.val / 5) (k0_pay1 (iblk m c 0 t) (iblk m c 1 t)) :=
  isRows_pay1 _ _ _ _ _ (fun r l i h0 => rows_at m c t r l i h0) fun k => gains_at m c t k

/-- The carried block holds the normalized rows of the point's block row. -/
theorem carried (c : Dev nD) : ∀ (n : ℕ) (h : n < grid0.N),
    IsRows (m ((c : Thread nD τ).loc main_arg0)) (m ((c : Thread nD τ).loc main_arg1)) (n / 5) (outsAt0 m c n h).2 := by
  refine carry (fun n h => (outsAt0 m c n h).2) _ (fun n h h0 => ?_) fun n h h0 => ?_
  · have e := outsAt0_A m c ⟨n, h⟩ h0
    dsimp only at e ⊢
    rw [e]
    frame_out
    exact fresh m c ⟨n, h⟩
  · have e := outsAt0_B m c ⟨n, h⟩ h0
    dsimp only at e ⊢
    rw [e]
    rfl

/-- A tile's entry, from a block of normalized rows. -/
theorem tile (c : Dev nD) (t : Fin grid0.N) (x : FVec Ideal S512x1024 .bf16) (hx : IsRows (m ((c : Thread nD τ).loc main_arg0)) (m ((c : Thread nD τ).loc main_arg1)) (t.val / 5) x)
    (r : Fin 512) (l : Fin 640) (i : S32768x3200.Idx) (h0 : (i 0).val = t.val / 5 * 512 + r.val) (h1 : (i 1).val = t.val % 5 * 640 + l.val) :
    k0_pay2 x (iblk m c 2 t) (ix2 r l) = prodOf (m ((c : Thread nD τ).loc main_arg0)) (m ((c : Thread nD τ).loc main_arg1)) (wide (m ((c : Thread nD τ).loc main_arg2))) i :=
  (pay2_at _ _ r l).trans (sum_rows hx r (i 0) h0 _ _ fun k => weights_at m c t k l (i 1) h1)

/-- The product after the run. -/
theorem final (c : Dev nD) : (dats m 0 c).arrAt 3 cfg0.N
    = prodOf (m ((c : Thread nD τ).loc main_arg0)) (m ((c : Thread nD τ).loc main_arg1)) (wide (m ((c : Thread nD τ).loc main_arg2))) := by
  refine (dats m 0 c).arrAt_eq_of_covers 3 _ (by decide +kernel) fun t hf y => ?_
  blk_simp
  rw [after0_3]
  obtain ⟨r, l, rfl⟩ : ∃ (r : Fin 512) (l : Fin 640), y = (ix2 r l : S512x640.Idx) := ⟨y 0, y 1, eq_ix2 y⟩
  have h0 := (Pipeline.Window.rect_emb_val win0_3 t (ix2 r l) 0)
  have h1 := (Pipeline.Window.rect_emb_val win0_3 t (ix2 r l) 1)
  rw [(idx t).2.2.2] at h0 h1
  by_cases h : t.val % 5 = 0
  · rw [outsAt0_A m c t h]
    frame_out
    exact tile m c t _ (fresh m c t) r l _ h0 h1
  · have hb := carried m c (t.val - 1) (Nat.lt_of_le_of_lt (Nat.sub_le _ _) t.isLt)
    rw [show (t.val - 1) / 5 = t.val / 5 by omega] at hb
    rw [outsAt0_B m c t h]
    frame_out
    rw [read_unread_whole]
    exact tile m c t _ hb r l _ h0 h1

/-- The reference's product, widened with zero columns, is the product with the widened weights. -/
theorem refProd_eq (h : FVec Ideal S32768x1024 .f32) (g : FVec Ideal S1024 .f32) (w : FVec Ideal S1024x3088 .f32) :
    pad Cert.Reference5Ideal.S32768x3200 ![0, 0] ![0, 112] ![0, 0]
      (Host.dotGeneral Cert.Reference5Ideal.dot_S32768x1024_S1024x3088_S32768x3088_1_0_0_1_n_n none (refRows h g) w)
      (sitofp (F := Ideal) .f32 (constantI Cert.Reference5Ideal.S_ 32 0#32)) Cert.Reference5Ideal.Gen.pads_S32768x3088_S32768x3200_000_01120 Cert.Reference5Ideal.Gen.h_S_
      = prodOf h g (wide w) := by
  rw [refRows_eq]
  funext i
  obtain ⟨r, l, rfl⟩ : ∃ (r : Fin 32768) (l : Fin 3200), i = ix2 r l := ⟨i 0, i 1, eq_ix2 i⟩
  unfold prodOf
  generalize rowsOf h g = x
  by_cases hl : l.val < 3088
  · refine (pad_apply_of_inside _ _ _ _ _ _ _ _ (ix2 r ⟨l.val, hl⟩ : Cert.Reference5Ideal.S32768x3088.Idx) fun a => ?_).trans ?_
    · match a with
      | ⟨0, _⟩ => show r.val = 0 + r.val * 1; omega
      | ⟨1, _⟩ => show l.val = 0 + l.val * 1; omega
    · refine Eq.trans (b := ∑ k : Fin 1024, (x (ix2 r k) : EReal) * (w (ix2 k ⟨l.val, hl⟩) : EReal)) (by pointwise) ?_
      exact Finset.sum_congr rfl fun k _ => congrArg (fun z : EReal => (x (ix2 r k) : EReal) * z) (wide_in w k l hl).symm
  · refine (pad_apply_of_not_inside _ _ _ _ _ _ _ _ 1 fun hin => hl ?_).trans ?_
    · have h2 := hin.2.2
      change (l.val - 0) / 1 < 3088 at h2
      omega
    · refine sitofp_zero.trans (Eq.symm (Finset.sum_eq_zero fun k _ => ?_))
      exact (congrArg (fun z : EReal => (x (ix2 r k) : EReal) * z) (wide_out w k l hl)).trans (mul_zero _)

/-- The idealized kernel and the idealized reference return one result. -/
theorem same_result : Cert.algebraic_Kernel5Ideal_Reference5Ideal := by
  intro m g m' g' _ hagree
  refine ⟨fun c => (dats m 0 c).arrAt 3 cfg0.N, Value.run_blocks m g, ?_⟩
  refine θ_run_mono (Cert.Reference5Ideal.Value.run m' g') fun r hr c => ⟨?_, (hr c).2⟩
  obtain ⟨e0, e1, e2⟩ := hagree c
  refine (hr c).1.trans ?_
  rw [e0, e1, e2]
  exact (refProd_eq _ _ _).trans (final m c).symm

end Cert.Kernel5Ideal.Pad

end
-- ==== Proof.lean ====
/- The proof of what the statement claims: the three programs' frames (Proof/Grid.lean, Proof/GridI.lean, Proof/RefI.lean),
   that the kernel and its idealization are one text, and that the idealized kernel and reference return one result
   (Proof/AlgI.lean). The same of the product added to the residual (Proof/ResI.lean), of the normalized rows and their
   product (Proof/NormI.lean), and of the mixers' input products (Proof/InI.lean, Proof/PadI.lean). -/
module

public import proofs.«01_k».proof.Defs
public import proofs.«01_k».proof.Proof.Grid
public import proofs.«01_k».proof.Proof.GridI
public import proofs.«01_k».proof.Proof.RefI
public import proofs.«01_k».proof.Proof.AlgI
public import proofs.«01_k».proof.Proof.ResI
public import proofs.«01_k».proof.Proof.NormI
public import proofs.«01_k».proof.Proof.InI
public import proofs.«01_k».proof.Proof.PadI
public import proofs.«01_k».proof.Proof.Gen.Kernel2.Frame
public import proofs.«01_k».proof.Proof.Gen.Kernel2Ideal.Value
public import proofs.«01_k».proof.Proof.Gen.Reference2Ideal.Run
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Kernel4.Frame
public import proofs.«01_k».proof.Proof.Gen.Kernel4Ideal.Value
public import proofs.«01_k».proof.Proof.Gen.Reference4Ideal.Run
public import proofs.«01_k».proof.Proof.Gen.Kernel5.Frame
public import proofs.«01_k».proof.Proof.Gen.Kernel5Ideal.Value
public import proofs.«01_k».proof.Proof.Gen.Reference5Ideal.Run

@[expose] public section

noncomputable section

namespace Cert.Proof

open Idealize.ShloMosaic Idealize.SL.Sem

/-- The kernel ends, its arguments unchanged, every counter at zero. -/
theorem frame_p : Cert.quiescent_Kernel := fun m g _ => Cert.Kernel.Att.frame_run m g

/-- The idealized kernel ends, its arguments unchanged, every counter at zero. -/
theorem frame_pi : Cert.quiescent_KernelIdeal := fun m g _ => Cert.KernelIdeal.Att.frame_run m g

/-- The reference of the product added to the residual ends, its arguments unchanged. -/
theorem frame_ref2 : Cert.quiescent_Reference2Ideal := fun m g _ =>
  θ_run_mono (Cert.Reference2Ideal.Value.run m g) fun r h => ⟨fun c => (h c).2, sem_eq_zero_of_no_sems (by decide) r.2⟩

/-- The reference of the normalized rows and their product ends, its arguments unchanged. -/
theorem frame_ref3 : Cert.quiescent_Reference3Ideal := fun m g _ =>
  θ_run_mono (Cert.Reference3Ideal.Value.run m g) fun r h => ⟨fun c => (h c).2.2, sem_eq_zero_of_no_sems (by decide) r.2⟩

/-- The reference of the attention's input product ends, its arguments unchanged. -/
theorem frame_ref4 : Cert.quiescent_Reference4Ideal := fun m g _ =>
  θ_run_mono (Cert.Reference4Ideal.Value.run m g) fun r h => ⟨fun c => (h c).2, sem_eq_zero_of_no_sems (by decide) r.2⟩

/-- The reference of the recurrence's input product ends, its arguments unchanged. -/
theorem frame_ref5 : Cert.quiescent_Reference5Ideal := fun m g _ =>
  θ_run_mono (Cert.Reference5Ideal.Value.run m g) fun r h => ⟨fun c => (h c).2, sem_eq_zero_of_no_sems (by decide) r.2⟩

/-- Everything that the statement claims. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts, Cert.Pre_finite.Att.facts,
    frame_p, frame_pi, fun m g _ => frame_pi m g trivial, Cert.ReferenceIdeal.Att.frame_ref, fun m g _ => Cert.ReferenceIdeal.Att.frame_ref m g trivial,
    fun m g _ => Cert.Kernel2.Gen.frame m g, fun m g _ => Cert.Kernel2Ideal.Gen.frame m g, frame_ref2,
    fun m g _ => Cert.Kernel3.Gen.frame m g, fun m g _ => Cert.Kernel3Ideal.Gen.frame m g, frame_ref3,
    fun m g _ => Cert.Kernel4.Gen.frame m g, fun m g _ => Cert.Kernel4Ideal.Gen.frame m g, frame_ref4,
    fun m g _ => Cert.Kernel5.Gen.frame m g, fun m g _ => Cert.Kernel5Ideal.Gen.frame m g, frame_ref5,
    trivial, Cert.Att.same_result, trivial, Cert.Kernel2Ideal.Res.same_result, trivial, Cert.Kernel3Ideal.Norm.same_result,
    trivial, Cert.Kernel4Ideal.In.same_result, trivial, Cert.Kernel5Ideal.Pad.same_result⟩

end Cert.Proof

end
